-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S192x256 : Shape := ⟨2, ![192, 256]⟩
abbrev S128x256 : Shape := ⟨2, ![128, 256]⟩
abbrev S24 : Shape := ⟨1, ![24]⟩
abbrev S_ : Shape := ⟨0, ![]⟩
abbrev S1 : Shape := ⟨1, ![1]⟩

abbrev nBuf : Space → Nat
  | .hbm => 2
  | .vmem => 44
  | .smem => 0
  | _ => 0

abbrev bufTy : (tb : Table) → Fin (tcTables nBuf tb) → BufTy
  | .hbm, ⟨0, _⟩ => ⟨S1024x512, .bf16⟩
  | .hbm, ⟨1, _⟩ => ⟨S1024x512, .bf16⟩
  | .local _ .vmem, ⟨0, _⟩ => ⟨S1024x512, .bf16⟩
  | .local _ .vmem, ⟨1, _⟩ => ⟨S1024x512, .bf16⟩
  | .local _ .vmem, ⟨2, _⟩ => ⟨S192x256, .bf16⟩
  | .local _ .vmem, ⟨3, _⟩ => ⟨S192x256, .bf16⟩
  | .local _ .vmem, ⟨4, _⟩ => ⟨S192x256, .bf16⟩
  | .local _ .vmem, ⟨5, _⟩ => ⟨S192x256, .bf16⟩
  | .local _ .vmem, ⟨6, _⟩ => ⟨S192x256, .bf16⟩
  | .local _ .vmem, ⟨7, _⟩ => ⟨S192x256, .bf16⟩
  | .local _ .vmem, ⟨8, _⟩ => ⟨S192x256, .f32⟩
  | .local _ .vmem, ⟨9, _⟩ => ⟨S192x256, .bf16⟩
  | .local _ .vmem, ⟨10, _⟩ => ⟨S192x256, .bf16⟩
  | .local _ .vmem, ⟨11, _⟩ => ⟨S192x256, .bf16⟩
  | .local _ .vmem, ⟨12, _⟩ => ⟨S192x256, .bf16⟩
  | .local _ .vmem, ⟨13, _⟩ => ⟨S192x256, .bf16⟩
  | .local _ .vmem, ⟨14, _⟩ => ⟨S192x256, .bf16⟩
  | .local _ .vmem, ⟨15, _⟩ => ⟨S192x256, .f32⟩
  | .local _ .vmem, ⟨16, _⟩ => ⟨S128x256, .bf16⟩
  | .local _ .vmem, ⟨17, _⟩ => ⟨S128x256, .bf16⟩
  | .local _ .vmem, ⟨18, _⟩ => ⟨S128x256, .bf16⟩
  | .local _ .vmem, ⟨19, _⟩ => ⟨S128x256, .bf16⟩
  | .local _ .vmem, ⟨20, _⟩ => ⟨S128x256, .bf16⟩
  | .local _ .vmem, ⟨21, _⟩ => ⟨S128x256, .bf16⟩
  | .local _ .vmem, ⟨22, _⟩ => ⟨S128x256, .f32⟩
  | .local _ .vmem, ⟨23, _⟩ => ⟨S192x256, .bf16⟩
  | .local _ .vmem, ⟨24, _⟩ => ⟨S192x256, .bf16⟩
  | .local _ .vmem, ⟨25, _⟩ => ⟨S192x256, .bf16⟩
  | .local _ .vmem, ⟨26, _⟩ => ⟨S192x256, .bf16⟩
  | .local _ .vmem, ⟨27, _⟩ => ⟨S192x256, .bf16⟩
  | .local _ .vmem, ⟨28, _⟩ => ⟨S192x256, .bf16⟩
  | .local _ .vmem, ⟨29, _⟩ => ⟨S192x256, .f32⟩
  | .local _ .vmem, ⟨30, _⟩ => ⟨S192x256, .bf16⟩
  | .local _ .vmem, ⟨31, _⟩ => ⟨S192x256, .bf16⟩
  | .local _ .vmem, ⟨32, _⟩ => ⟨S192x256, .bf16⟩
  | .local _ .vmem, ⟨33, _⟩ => ⟨S192x256, .bf16⟩
  | .local _ .vmem, ⟨34, _⟩ => ⟨S192x256, .bf16⟩
  | .local _ .vmem, ⟨35, _⟩ => ⟨S192x256, .bf16⟩
  | .local _ .vmem, ⟨36, _⟩ => ⟨S192x256, .f32⟩
  | .local _ .vmem, ⟨37, _⟩ => ⟨S128x256, .bf16⟩
  | .local _ .vmem, ⟨38, _⟩ => ⟨S128x256, .bf16⟩
  | .local _ .vmem, ⟨39, _⟩ => ⟨S128x256, .bf16⟩
  | .local _ .vmem, ⟨40, _⟩ => ⟨S128x256, .bf16⟩
  | .local _ .vmem, ⟨41, _⟩ => ⟨S128x256, .bf16⟩
  | .local _ .vmem, ⟨42, _⟩ => ⟨S128x256, .bf16⟩
  | .local _ .vmem, ⟨43, _⟩ => ⟨S128x256, .f32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_scratch12 : Ref sig .tc := ⟨.vmem, 14, rfl⟩
abbrev cc0_scratch13 : Ref sig .tc := ⟨.vmem, 15, rfl⟩
abbrev cc0_scratch14 : Ref sig .tc := ⟨.vmem, 16, rfl⟩
abbrev cc0_scratch15 : Ref sig .tc := ⟨.vmem, 17, rfl⟩
abbrev cc0_scratch16 : Ref sig .tc := ⟨.vmem, 18, rfl⟩
abbrev cc0_scratch17 : Ref sig .tc := ⟨.vmem, 19, rfl⟩
abbrev cc0_scratch18 : Ref sig .tc := ⟨.vmem, 20, rfl⟩
abbrev cc0_scratch19 : Ref sig .tc := ⟨.vmem, 21, rfl⟩
abbrev cc0_scratch20 : Ref sig .tc := ⟨.vmem, 22, rfl⟩
abbrev cc0_scratch21 : Ref sig .tc := ⟨.vmem, 23, rfl⟩
abbrev cc0_scratch22 : Ref sig .tc := ⟨.vmem, 24, rfl⟩
abbrev cc0_scratch23 : Ref sig .tc := ⟨.vmem, 25, rfl⟩
abbrev cc0_scratch24 : Ref sig .tc := ⟨.vmem, 26, rfl⟩
abbrev cc0_scratch25 : Ref sig .tc := ⟨.vmem, 27, rfl⟩
abbrev cc0_scratch26 : Ref sig .tc := ⟨.vmem, 28, rfl⟩
abbrev cc0_scratch27 : Ref sig .tc := ⟨.vmem, 29, rfl⟩
abbrev cc0_scratch28 : Ref sig .tc := ⟨.vmem, 30, rfl⟩
abbrev cc0_scratch29 : Ref sig .tc := ⟨.vmem, 31, rfl⟩
abbrev cc0_scratch30 : Ref sig .tc := ⟨.vmem, 32, rfl⟩
abbrev cc0_scratch31 : Ref sig .tc := ⟨.vmem, 33, rfl⟩
abbrev cc0_scratch32 : Ref sig .tc := ⟨.vmem, 34, rfl⟩
abbrev cc0_scratch33 : Ref sig .tc := ⟨.vmem, 35, rfl⟩
abbrev cc0_scratch34 : Ref sig .tc := ⟨.vmem, 36, rfl⟩
abbrev cc0_scratch35 : Ref sig .tc := ⟨.vmem, 37, rfl⟩
abbrev cc0_scratch36 : Ref sig .tc := ⟨.vmem, 38, rfl⟩
abbrev cc0_scratch37 : Ref sig .tc := ⟨.vmem, 39, rfl⟩
abbrev cc0_scratch38 : Ref sig .tc := ⟨.vmem, 40, rfl⟩
abbrev cc0_scratch39 : Ref sig .tc := ⟨.vmem, 41, rfl⟩
abbrev cc0_scratch40 : Ref sig .tc := ⟨.vmem, 42, rfl⟩
abbrev cc0_scratch41 : Ref sig .tc := ⟨.vmem, 43, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let c2_i32_2 : BitVec 32 := 2#32
  let c2_i32 : BitVec 32 := 2#32
  let v3 : BitVec 32 := Scalar.remsi v2 c2_i32
  let v7 : BitVec 32 := Scalar.muli c2_i32_2 v3
  let v8 : BitVec 32 := Scalar.subi c1_i32_3 v7
  let v9 : BitVec 32 := Scalar.addi v2 v8
  let c1_i32_14 : BitVec 32 := 1#32
  let v24 : BitVec 32 := Scalar.muli v9 c1_i32_14
  let v25 : BitVec 32 := Scalar.addi c0_i32 v24
  v25.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let c2_i32_4 : BitVec 32 := 2#32
  let c2_i32 : BitVec 32 := 2#32
  let v3 : BitVec 32 := Scalar.remsi v2 c2_i32
  let v10 : BitVec 32 := Scalar.muli c2_i32_4 v3
  let v11 : BitVec 32 := Scalar.subi c1_i32_5 v10
  let v12 : BitVec 32 := Scalar.addi v2 v11
  let c2_i32_8 : BitVec 32 := 2#32
  let c1_i32_7 : BitVec 32 := 1#32
  let c2_i32_6 : BitVec 32 := 2#32
  let c2_i32_0 : BitVec 32 := 2#32
  let v4 : BitVec 32 := Scalar.divsi v2 c2_i32_0
  let c2_i32_1 : BitVec 32 := 2#32
  let v5 : BitVec 32 := Scalar.remsi v4 c2_i32_1
  let v13 : BitVec 32 := Scalar.muli c2_i32_6 v5
  let v14 : BitVec 32 := Scalar.subi c1_i32_7 v13
  let v15 : BitVec 32 := Scalar.muli c2_i32_8 v14
  let v16 : BitVec 32 := Scalar.addi v12 v15
  let c1_i32_16 : BitVec 32 := 1#32
  let v26 : BitVec 32 := Scalar.muli v16 c1_i32_16
  let v27 : BitVec 32 := Scalar.addi c0_i32_17 v26
  v27.toNat
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_11 : BitVec 32 := 4#32
  let c1_i32_10 : BitVec 32 := 1#32
  let c2_i32_9 : BitVec 32 := 2#32
  let c4_i32 : BitVec 32 := 4#32
  let v6 : BitVec 32 := Scalar.divsi v2 c4_i32
  let v17 : BitVec 32 := Scalar.muli c2_i32_9 v6
  let v18 : BitVec 32 := Scalar.subi c1_i32_10 v17
  let v19 : BitVec 32 := Scalar.muli c4_i32_11 v18
  let v20 : BitVec 32 := Scalar.addi v2 v19
  let c1_i32_19 : BitVec 32 := 1#32
  let v28 : BitVec 32 := Scalar.muli v20 c1_i32_19
  let v29 : BitVec 32 := Scalar.addi c0_i32_20 v28
  v29.toNat
def k0_off1 (d0 : Dev nD) : Fin 2 → Nat :=
  let c0_i32_24 : BitVec 32 := 0#32
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v21 : BitVec 32 := Scalar.addi v3 v5
  let c2_i32_12 : BitVec 32 := 2#32
  let v22 : BitVec 32 := Scalar.remsi v21 c2_i32_12
  let v32 : BitVec 32 := Scalar.subi c1_i32_22 v22
  let c192_i32_23 : BitVec 32 := 192#32
  let v33 : BitVec 32 := Scalar.muli v32 c192_i32_23
  let v34 : BitVec 32 := Scalar.addi c0_i32_24 v33
  let v60 : Index := Scalar.indexCast v34
  let c0 : Index := 0#32
  ![v60.toNat, 0]
def k0_off2 (d0 : Dev nD) : Fin 2 → Nat :=
  let c384_i32_28 : BitVec 32 := 384#32
  let c1_i32_26 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_0 : BitVec 32 := 2#32
  let v4 : BitVec 32 := Scalar.divsi v2 c2_i32_0
  let c2_i32_1 : BitVec 32 := 2#32
  let v5 : BitVec 32 := Scalar.remsi v4 c2_i32_1
  let v37 : BitVec 32 := Scalar.subi c1_i32_26 v5
  let c192_i32_27 : BitVec 32 := 192#32
  let v38 : BitVec 32 := Scalar.muli v37 c192_i32_27
  let v39 : BitVec 32 := Scalar.addi c384_i32_28 v38
  let v66 : Index := Scalar.indexCast v39
  let c0_49 : Index := 0#32
  ![v66.toNat, 0]
def k0_off3 (d0 : Dev nD) : Fin 2 → Nat :=
  let c768_i32_31 : BitVec 32 := 768#32
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.divsi v2 c4_i32
  let v42 : BitVec 32 := Scalar.subi c1_i32_29 v6
  let c128_i32_30 : BitVec 32 := 128#32
  let v43 : BitVec 32 := Scalar.muli v42 c128_i32_30
  let v44 : BitVec 32 := Scalar.addi c768_i32_31 v43
  let v72 : Index := Scalar.indexCast v44
  let c0_52 : Index := 0#32
  ![v72.toNat, 0]
def k0_off4 (d0 : Dev nD) : Fin 2 → Nat :=
  let c0_i32_36 : BitVec 32 := 0#32
  let c1_i32_34 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v21 : BitVec 32 := Scalar.addi v3 v5
  let c2_i32_12 : BitVec 32 := 2#32
  let v22 : BitVec 32 := Scalar.remsi v21 c2_i32_12
  let v47 : BitVec 32 := Scalar.subi c1_i32_34 v22
  let c192_i32_35 : BitVec 32 := 192#32
  let v48 : BitVec 32 := Scalar.muli v47 c192_i32_35
  let v49 : BitVec 32 := Scalar.addi c0_i32_36 v48
  let v78 : Index := Scalar.indexCast v49
  let c256 : Index := 256#32
  ![v78.toNat, 256]
def k0_off5 (d0 : Dev nD) : Fin 2 → Nat :=
  let c384_i32_41 : BitVec 32 := 384#32
  let c1_i32_39 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_0 : BitVec 32 := 2#32
  let v4 : BitVec 32 := Scalar.divsi v2 c2_i32_0
  let c2_i32_1 : BitVec 32 := 2#32
  let v5 : BitVec 32 := Scalar.remsi v4 c2_i32_1
  let v52 : BitVec 32 := Scalar.subi c1_i32_39 v5
  let c192_i32_40 : BitVec 32 := 192#32
  let v53 : BitVec 32 := Scalar.muli v52 c192_i32_40
  let v54 : BitVec 32 := Scalar.addi c384_i32_41 v53
  let v84 : Index := Scalar.indexCast v54
  let c256_57 : Index := 256#32
  ![v84.toNat, 256]
def k0_off6 (d0 : Dev nD) : Fin 2 → Nat :=
  let c768_i32_46 : BitVec 32 := 768#32
  let c1_i32_44 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.divsi v2 c4_i32
  let v57 : BitVec 32 := Scalar.subi c1_i32_44 v6
  let c128_i32_45 : BitVec 32 := 128#32
  let v58 : BitVec 32 := Scalar.muli v57 c128_i32_45
  let v59 : BitVec 32 := Scalar.addi c768_i32_46 v58
  let v90 : Index := Scalar.indexCast v59
  let c256_60 : Index := 256#32
  ![v90.toNat, 256]
def k0_dev4 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let c2_i32_2 : BitVec 32 := 2#32
  let c2_i32 : BitVec 32 := 2#32
  let v3 : BitVec 32 := Scalar.remsi v2 c2_i32
  let v7 : BitVec 32 := Scalar.muli c2_i32_2 v3
  let v8 : BitVec 32 := Scalar.subi c1_i32_3 v7
  let v9 : BitVec 32 := Scalar.addi v2 v8
  let c1_i32_65 : BitVec 32 := 1#32
  let v96 : BitVec 32 := Scalar.muli v9 c1_i32_65
  let v97 : BitVec 32 := Scalar.addi c0_i32_66 v96
  v97.toNat
def k0_dev5 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let c2_i32_4 : BitVec 32 := 2#32
  let c2_i32 : BitVec 32 := 2#32
  let v3 : BitVec 32 := Scalar.remsi v2 c2_i32
  let v10 : BitVec 32 := Scalar.muli c2_i32_4 v3
  let v11 : BitVec 32 := Scalar.subi c1_i32_5 v10
  let v12 : BitVec 32 := Scalar.addi v2 v11
  let c2_i32_8 : BitVec 32 := 2#32
  let c1_i32_7 : BitVec 32 := 1#32
  let c2_i32_6 : BitVec 32 := 2#32
  let c2_i32_0 : BitVec 32 := 2#32
  let v4 : BitVec 32 := Scalar.divsi v2 c2_i32_0
  let c2_i32_1 : BitVec 32 := 2#32
  let v5 : BitVec 32 := Scalar.remsi v4 c2_i32_1
  let v13 : BitVec 32 := Scalar.muli c2_i32_6 v5
  let v14 : BitVec 32 := Scalar.subi c1_i32_7 v13
  let v15 : BitVec 32 := Scalar.muli c2_i32_8 v14
  let v16 : BitVec 32 := Scalar.addi v12 v15
  let c1_i32_69 : BitVec 32 := 1#32
  let v102 : BitVec 32 := Scalar.muli v16 c1_i32_69
  let v103 : BitVec 32 := Scalar.addi c0_i32_70 v102
  v103.toNat
def k0_dev6 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_11 : BitVec 32 := 4#32
  let c1_i32_10 : BitVec 32 := 1#32
  let c2_i32_9 : BitVec 32 := 2#32
  let c4_i32 : BitVec 32 := 4#32
  let v6 : BitVec 32 := Scalar.divsi v2 c4_i32
  let v17 : BitVec 32 := Scalar.muli c2_i32_9 v6
  let v18 : BitVec 32 := Scalar.subi c1_i32_10 v17
  let v19 : BitVec 32 := Scalar.muli c4_i32_11 v18
  let v20 : BitVec 32 := Scalar.addi v2 v19
  let c1_i32_73 : BitVec 32 := 1#32
  let v108 : BitVec 32 := Scalar.muli v20 c1_i32_73
  let v109 : BitVec 32 := Scalar.addi c0_i32_74 v108
  v109.toNat
def k0_dev7 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let c2_i32_2 : BitVec 32 := 2#32
  let c2_i32 : BitVec 32 := 2#32
  let v3 : BitVec 32 := Scalar.remsi v2 c2_i32
  let v7 : BitVec 32 := Scalar.muli c2_i32_2 v3
  let v8 : BitVec 32 := Scalar.subi c1_i32_3 v7
  let v9 : BitVec 32 := Scalar.addi v2 v8
  let c1_i32_76 : BitVec 32 := 1#32
  let v114 : BitVec 32 := Scalar.muli v9 c1_i32_76
  let v115 : BitVec 32 := Scalar.addi c0_i32_77 v114
  v115.toNat
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let c2_i32_4 : BitVec 32 := 2#32
  let c2_i32 : BitVec 32 := 2#32
  let v3 : BitVec 32 := Scalar.remsi v2 c2_i32
  let v10 : BitVec 32 := Scalar.muli c2_i32_4 v3
  let v11 : BitVec 32 := Scalar.subi c1_i32_5 v10
  let v12 : BitVec 32 := Scalar.addi v2 v11
  let c2_i32_8 : BitVec 32 := 2#32
  let c1_i32_7 : BitVec 32 := 1#32
  let c2_i32_6 : BitVec 32 := 2#32
  let c2_i32_0 : BitVec 32 := 2#32
  let v4 : BitVec 32 := Scalar.divsi v2 c2_i32_0
  let c2_i32_1 : BitVec 32 := 2#32
  let v5 : BitVec 32 := Scalar.remsi v4 c2_i32_1
  let v13 : BitVec 32 := Scalar.muli c2_i32_6 v5
  let v14 : BitVec 32 := Scalar.subi c1_i32_7 v13
  let v15 : BitVec 32 := Scalar.muli c2_i32_8 v14
  let v16 : BitVec 32 := Scalar.addi v12 v15
  let c1_i32_79 : BitVec 32 := 1#32
  let v120 : BitVec 32 := Scalar.muli v16 c1_i32_79
  let v121 : BitVec 32 := Scalar.addi c0_i32_80 v120
  v121.toNat
def k0_dev9 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_11 : BitVec 32 := 4#32
  let c1_i32_10 : BitVec 32 := 1#32
  let c2_i32_9 : BitVec 32 := 2#32
  let c4_i32 : BitVec 32 := 4#32
  let v6 : BitVec 32 := Scalar.divsi v2 c4_i32
  let v17 : BitVec 32 := Scalar.muli c2_i32_9 v6
  let v18 : BitVec 32 := Scalar.subi c1_i32_10 v17
  let v19 : BitVec 32 := Scalar.muli c4_i32_11 v18
  let v20 : BitVec 32 := Scalar.addi v2 v19
  let c1_i32_82 : BitVec 32 := 1#32
  let v126 : BitVec 32 := Scalar.muli v20 c1_i32_82
  let v127 : BitVec 32 := Scalar.addi c0_i32_83 v126
  v127.toNat
def k0_off7 (d0 : Dev nD) : Fin 2 → Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v21 : BitVec 32 := Scalar.addi v3 v5
  let c2_i32_12 : BitVec 32 := 2#32
  let v22 : BitVec 32 := Scalar.remsi v21 c2_i32_12
  let c192_i32 : BitVec 32 := 192#32
  let v30 : BitVec 32 := Scalar.muli v22 c192_i32
  let v31 : BitVec 32 := Scalar.addi c0_i32_21 v30
  let v138 : Index := Scalar.indexCast v31
  let c0_91 : Index := 0#32
  ![v138.toNat, 0]
def k0_dev10 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let c2_i32_4 : BitVec 32 := 2#32
  let c2_i32 : BitVec 32 := 2#32
  let v3 : BitVec 32 := Scalar.remsi v2 c2_i32
  let v10 : BitVec 32 := Scalar.muli c2_i32_4 v3
  let v11 : BitVec 32 := Scalar.subi c1_i32_5 v10
  let v12 : BitVec 32 := Scalar.addi v2 v11
  let c2_i32_8 : BitVec 32 := 2#32
  let c1_i32_7 : BitVec 32 := 1#32
  let c2_i32_6 : BitVec 32 := 2#32
  let c2_i32_0 : BitVec 32 := 2#32
  let v4 : BitVec 32 := Scalar.divsi v2 c2_i32_0
  let c2_i32_1 : BitVec 32 := 2#32
  let v5 : BitVec 32 := Scalar.remsi v4 c2_i32_1
  let v13 : BitVec 32 := Scalar.muli c2_i32_6 v5
  let v14 : BitVec 32 := Scalar.subi c1_i32_7 v13
  let v15 : BitVec 32 := Scalar.muli c2_i32_8 v14
  let v16 : BitVec 32 := Scalar.addi v12 v15
  let c1_i32_102 : BitVec 32 := 1#32
  let v153 : BitVec 32 := Scalar.muli v16 c1_i32_102
  let v154 : BitVec 32 := Scalar.addi c0_i32_103 v153
  v154.toNat
def k0_off8 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_0 : BitVec 32 := 2#32
  let v4 : BitVec 32 := Scalar.divsi v2 c2_i32_0
  let c2_i32_1 : BitVec 32 := 2#32
  let v5 : BitVec 32 := Scalar.remsi v4 c2_i32_1
  let c192_i32_25 : BitVec 32 := 192#32
  let v35 : BitVec 32 := Scalar.muli v5 c192_i32_25
  let v36 : BitVec 32 := Scalar.addi c384_i32 v35
  let v165 : Index := Scalar.indexCast v36
  let c0_111 : Index := 0#32
  ![v165.toNat, 0]
def k0_dev11 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_11 : BitVec 32 := 4#32
  let c1_i32_10 : BitVec 32 := 1#32
  let c2_i32_9 : BitVec 32 := 2#32
  let c4_i32 : BitVec 32 := 4#32
  let v6 : BitVec 32 := Scalar.divsi v2 c4_i32
  let v17 : BitVec 32 := Scalar.muli c2_i32_9 v6
  let v18 : BitVec 32 := Scalar.subi c1_i32_10 v17
  let v19 : BitVec 32 := Scalar.muli c4_i32_11 v18
  let v20 : BitVec 32 := Scalar.addi v2 v19
  let c1_i32_121 : BitVec 32 := 1#32
  let v180 : BitVec 32 := Scalar.muli v20 c1_i32_121
  let v181 : BitVec 32 := Scalar.addi c0_i32_122 v180
  v181.toNat
def k0_off9 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.divsi v2 c4_i32
  let c128_i32 : BitVec 32 := 128#32
  let v40 : BitVec 32 := Scalar.muli v6 c128_i32
  let v41 : BitVec 32 := Scalar.addi c768_i32 v40
  let v192 : Index := Scalar.indexCast v41
  let c0_130 : Index := 0#32
  ![v192.toNat, 0]
def k0_dev12 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let c2_i32_2 : BitVec 32 := 2#32
  let c2_i32 : BitVec 32 := 2#32
  let v3 : BitVec 32 := Scalar.remsi v2 c2_i32
  let v7 : BitVec 32 := Scalar.muli c2_i32_2 v3
  let v8 : BitVec 32 := Scalar.subi c1_i32_3 v7
  let v9 : BitVec 32 := Scalar.addi v2 v8
  let c1_i32_140 : BitVec 32 := 1#32
  let v207 : BitVec 32 := Scalar.muli v9 c1_i32_140
  let v208 : BitVec 32 := Scalar.addi c0_i32_141 v207
  v208.toNat
def k0_off10 (d0 : Dev nD) : Fin 2 → Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v21 : BitVec 32 := Scalar.addi v3 v5
  let c2_i32_12 : BitVec 32 := 2#32
  let v22 : BitVec 32 := Scalar.remsi v21 c2_i32_12
  let c192_i32_32 : BitVec 32 := 192#32
  let v45 : BitVec 32 := Scalar.muli v22 c192_i32_32
  let v46 : BitVec 32 := Scalar.addi c0_i32_33 v45
  let v219 : Index := Scalar.indexCast v46
  let c256_149 : Index := 256#32
  ![v219.toNat, 256]
def k0_dev13 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let c2_i32_4 : BitVec 32 := 2#32
  let c2_i32 : BitVec 32 := 2#32
  let v3 : BitVec 32 := Scalar.remsi v2 c2_i32
  let v10 : BitVec 32 := Scalar.muli c2_i32_4 v3
  let v11 : BitVec 32 := Scalar.subi c1_i32_5 v10
  let v12 : BitVec 32 := Scalar.addi v2 v11
  let c2_i32_8 : BitVec 32 := 2#32
  let c1_i32_7 : BitVec 32 := 1#32
  let c2_i32_6 : BitVec 32 := 2#32
  let c2_i32_0 : BitVec 32 := 2#32
  let v4 : BitVec 32 := Scalar.divsi v2 c2_i32_0
  let c2_i32_1 : BitVec 32 := 2#32
  let v5 : BitVec 32 := Scalar.remsi v4 c2_i32_1
  let v13 : BitVec 32 := Scalar.muli c2_i32_6 v5
  let v14 : BitVec 32 := Scalar.subi c1_i32_7 v13
  let v15 : BitVec 32 := Scalar.muli c2_i32_8 v14
  let v16 : BitVec 32 := Scalar.addi v12 v15
  let c1_i32_159 : BitVec 32 := 1#32
  let v234 : BitVec 32 := Scalar.muli v16 c1_i32_159
  let v235 : BitVec 32 := Scalar.addi c0_i32_160 v234
  v235.toNat
def k0_off11 (d0 : Dev nD) : Fin 2 → Nat :=
  let c384_i32_38 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_0 : BitVec 32 := 2#32
  let v4 : BitVec 32 := Scalar.divsi v2 c2_i32_0
  let c2_i32_1 : BitVec 32 := 2#32
  let v5 : BitVec 32 := Scalar.remsi v4 c2_i32_1
  let c192_i32_37 : BitVec 32 := 192#32
  let v50 : BitVec 32 := Scalar.muli v5 c192_i32_37
  let v51 : BitVec 32 := Scalar.addi c384_i32_38 v50
  let v246 : Index := Scalar.indexCast v51
  let c256_168 : Index := 256#32
  ![v246.toNat, 256]
def k0_dev14 (d0 : Dev nD) : Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_11 : BitVec 32 := 4#32
  let c1_i32_10 : BitVec 32 := 1#32
  let c2_i32_9 : BitVec 32 := 2#32
  let c4_i32 : BitVec 32 := 4#32
  let v6 : BitVec 32 := Scalar.divsi v2 c4_i32
  let v17 : BitVec 32 := Scalar.muli c2_i32_9 v6
  let v18 : BitVec 32 := Scalar.subi c1_i32_10 v17
  let v19 : BitVec 32 := Scalar.muli c4_i32_11 v18
  let v20 : BitVec 32 := Scalar.addi v2 v19
  let c1_i32_178 : BitVec 32 := 1#32
  let v261 : BitVec 32 := Scalar.muli v20 c1_i32_178
  let v262 : BitVec 32 := Scalar.addi c0_i32_179 v261
  v262.toNat
def k0_off12 (d0 : Dev nD) : Fin 2 → Nat :=
  let c768_i32_43 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.divsi v2 c4_i32
  let c128_i32_42 : BitVec 32 := 128#32
  let v55 : BitVec 32 := Scalar.muli v6 c128_i32_42
  let v56 : BitVec 32 := Scalar.addi c768_i32_43 v55
  let v273 : Index := Scalar.indexCast v56
  let c256_187 : Index := 256#32
  ![v273.toNat, 256]
def k0_dev15 (d0 : Dev nD) : Nat :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let c2_i32_2 : BitVec 32 := 2#32
  let c2_i32 : BitVec 32 := 2#32
  let v3 : BitVec 32 := Scalar.remsi v2 c2_i32
  let v7 : BitVec 32 := Scalar.muli c2_i32_2 v3
  let v8 : BitVec 32 := Scalar.subi c1_i32_3 v7
  let v9 : BitVec 32 := Scalar.addi v2 v8
  let c1_i32_197 : BitVec 32 := 1#32
  let v288 : BitVec 32 := Scalar.muli v9 c1_i32_197
  let v289 : BitVec 32 := Scalar.addi c0_i32_198 v288
  v289.toNat
def k0_dev16 (d0 : Dev nD) : Nat :=
  let c0_i32_219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_11 : BitVec 32 := 4#32
  let c1_i32_10 : BitVec 32 := 1#32
  let c2_i32_9 : BitVec 32 := 2#32
  let c4_i32 : BitVec 32 := 4#32
  let v6 : BitVec 32 := Scalar.divsi v2 c4_i32
  let v17 : BitVec 32 := Scalar.muli c2_i32_9 v6
  let v18 : BitVec 32 := Scalar.subi c1_i32_10 v17
  let v19 : BitVec 32 := Scalar.muli c4_i32_11 v18
  let v20 : BitVec 32 := Scalar.addi v2 v19
  let c1_i32_218 : BitVec 32 := 1#32
  let v312 : BitVec 32 := Scalar.muli v20 c1_i32_218
  let v313 : BitVec 32 := Scalar.addi c0_i32_219 v312
  v313.toNat
def k0_dev17 (d0 : Dev nD) : Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let c2_i32_2 : BitVec 32 := 2#32
  let c2_i32 : BitVec 32 := 2#32
  let v3 : BitVec 32 := Scalar.remsi v2 c2_i32
  let v7 : BitVec 32 := Scalar.muli c2_i32_2 v3
  let v8 : BitVec 32 := Scalar.subi c1_i32_3 v7
  let v9 : BitVec 32 := Scalar.addi v2 v8
  let c1_i32_238 : BitVec 32 := 1#32
  let v336 : BitVec 32 := Scalar.muli v9 c1_i32_238
  let v337 : BitVec 32 := Scalar.addi c0_i32_239 v336
  v337.toNat
def k0_dev18 (d0 : Dev nD) : Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let c2_i32_4 : BitVec 32 := 2#32
  let c2_i32 : BitVec 32 := 2#32
  let v3 : BitVec 32 := Scalar.remsi v2 c2_i32
  let v10 : BitVec 32 := Scalar.muli c2_i32_4 v3
  let v11 : BitVec 32 := Scalar.subi c1_i32_5 v10
  let v12 : BitVec 32 := Scalar.addi v2 v11
  let c2_i32_8 : BitVec 32 := 2#32
  let c1_i32_7 : BitVec 32 := 1#32
  let c2_i32_6 : BitVec 32 := 2#32
  let c2_i32_0 : BitVec 32 := 2#32
  let v4 : BitVec 32 := Scalar.divsi v2 c2_i32_0
  let c2_i32_1 : BitVec 32 := 2#32
  let v5 : BitVec 32 := Scalar.remsi v4 c2_i32_1
  let v13 : BitVec 32 := Scalar.muli c2_i32_6 v5
  let v14 : BitVec 32 := Scalar.subi c1_i32_7 v13
  let v15 : BitVec 32 := Scalar.muli c2_i32_8 v14
  let v16 : BitVec 32 := Scalar.addi v12 v15
  let c1_i32_258 : BitVec 32 := 1#32
  let v360 : BitVec 32 := Scalar.muli v16 c1_i32_258
  let v361 : BitVec 32 := Scalar.addi c0_i32_259 v360
  v361.toNat
def k0_dev19 (d0 : Dev nD) : Nat :=
  let c0_i32_279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_11 : BitVec 32 := 4#32
  let c1_i32_10 : BitVec 32 := 1#32
  let c2_i32_9 : BitVec 32 := 2#32
  let c4_i32 : BitVec 32 := 4#32
  let v6 : BitVec 32 := Scalar.divsi v2 c4_i32
  let v17 : BitVec 32 := Scalar.muli c2_i32_9 v6
  let v18 : BitVec 32 := Scalar.subi c1_i32_10 v17
  let v19 : BitVec 32 := Scalar.muli c4_i32_11 v18
  let v20 : BitVec 32 := Scalar.addi v2 v19
  let c1_i32_278 : BitVec 32 := 1#32
  let v384 : BitVec 32 := Scalar.muli v20 c1_i32_278
  let v385 : BitVec 32 := Scalar.addi c0_i32_279 v384
  v385.toNat
def k0_dev20 (d0 : Dev nD) : Nat :=
  let c0_i32_299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let c2_i32_2 : BitVec 32 := 2#32
  let c2_i32 : BitVec 32 := 2#32
  let v3 : BitVec 32 := Scalar.remsi v2 c2_i32
  let v7 : BitVec 32 := Scalar.muli c2_i32_2 v3
  let v8 : BitVec 32 := Scalar.subi c1_i32_3 v7
  let v9 : BitVec 32 := Scalar.addi v2 v8
  let c1_i32_298 : BitVec 32 := 1#32
  let v408 : BitVec 32 := Scalar.muli v9 c1_i32_298
  let v409 : BitVec 32 := Scalar.addi c0_i32_299 v408
  v409.toNat
def k0_dev21 (d0 : Dev nD) : Nat :=
  let c0_i32_319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let c2_i32_4 : BitVec 32 := 2#32
  let c2_i32 : BitVec 32 := 2#32
  let v3 : BitVec 32 := Scalar.remsi v2 c2_i32
  let v10 : BitVec 32 := Scalar.muli c2_i32_4 v3
  let v11 : BitVec 32 := Scalar.subi c1_i32_5 v10
  let v12 : BitVec 32 := Scalar.addi v2 v11
  let c2_i32_8 : BitVec 32 := 2#32
  let c1_i32_7 : BitVec 32 := 1#32
  let c2_i32_6 : BitVec 32 := 2#32
  let c2_i32_0 : BitVec 32 := 2#32
  let v4 : BitVec 32 := Scalar.divsi v2 c2_i32_0
  let c2_i32_1 : BitVec 32 := 2#32
  let v5 : BitVec 32 := Scalar.remsi v4 c2_i32_1
  let v13 : BitVec 32 := Scalar.muli c2_i32_6 v5
  let v14 : BitVec 32 := Scalar.subi c1_i32_7 v13
  let v15 : BitVec 32 := Scalar.muli c2_i32_8 v14
  let v16 : BitVec 32 := Scalar.addi v12 v15
  let c1_i32_318 : BitVec 32 := 1#32
  let v432 : BitVec 32 := Scalar.muli v16 c1_i32_318
  let v433 : BitVec 32 := Scalar.addi c0_i32_319 v432
  v433.toNat
def k0_off13 (d0 : Dev nD) : Fin 2 → Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v21 : BitVec 32 := Scalar.addi v3 v5
  let c2_i32_12 : BitVec 32 := 2#32
  let v22 : BitVec 32 := Scalar.remsi v21 c2_i32_12
  let c192_i32 : BitVec 32 := 192#32
  let v30 : BitVec 32 := Scalar.muli v22 c192_i32
  let v31 : BitVec 32 := Scalar.addi c0_i32_21 v30
  let c0_i32_336 : BitVec 32 := 0#32
  ![v31.toNat, 0]
def k0_dev22 (d0 : Dev nD) : Nat :=
  let c0_i32_335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let c2_i32_2 : BitVec 32 := 2#32
  let c2_i32 : BitVec 32 := 2#32
  let v3 : BitVec 32 := Scalar.remsi v2 c2_i32
  let v7 : BitVec 32 := Scalar.muli c2_i32_2 v3
  let v8 : BitVec 32 := Scalar.subi c1_i32_3 v7
  let v9 : BitVec 32 := Scalar.addi v2 v8
  let c1_i32_334 : BitVec 32 := 1#32
  let v459 : BitVec 32 := Scalar.muli v9 c1_i32_334
  let v460 : BitVec 32 := Scalar.addi c0_i32_335 v459
  v460.toNat
def k0_off14 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_0 : BitVec 32 := 2#32
  let v4 : BitVec 32 := Scalar.divsi v2 c2_i32_0
  let c2_i32_1 : BitVec 32 := 2#32
  let v5 : BitVec 32 := Scalar.remsi v4 c2_i32_1
  let c192_i32_25 : BitVec 32 := 192#32
  let v35 : BitVec 32 := Scalar.muli v5 c192_i32_25
  let v36 : BitVec 32 := Scalar.addi c384_i32 v35
  let c0_i32_354 : BitVec 32 := 0#32
  ![v36.toNat, 0]
def k0_dev23 (d0 : Dev nD) : Nat :=
  let c0_i32_353 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let c2_i32_4 : BitVec 32 := 2#32
  let c2_i32 : BitVec 32 := 2#32
  let v3 : BitVec 32 := Scalar.remsi v2 c2_i32
  let v10 : BitVec 32 := Scalar.muli c2_i32_4 v3
  let v11 : BitVec 32 := Scalar.subi c1_i32_5 v10
  let v12 : BitVec 32 := Scalar.addi v2 v11
  let c2_i32_8 : BitVec 32 := 2#32
  let c1_i32_7 : BitVec 32 := 1#32
  let c2_i32_6 : BitVec 32 := 2#32
  let c2_i32_0 : BitVec 32 := 2#32
  let v4 : BitVec 32 := Scalar.divsi v2 c2_i32_0
  let c2_i32_1 : BitVec 32 := 2#32
  let v5 : BitVec 32 := Scalar.remsi v4 c2_i32_1
  let v13 : BitVec 32 := Scalar.muli c2_i32_6 v5
  let v14 : BitVec 32 := Scalar.subi c1_i32_7 v13
  let v15 : BitVec 32 := Scalar.muli c2_i32_8 v14
  let v16 : BitVec 32 := Scalar.addi v12 v15
  let c1_i32_352 : BitVec 32 := 1#32
  let v488 : BitVec 32 := Scalar.muli v16 c1_i32_352
  let v489 : BitVec 32 := Scalar.addi c0_i32_353 v488
  v489.toNat
def k0_off15 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.divsi v2 c4_i32
  let c128_i32 : BitVec 32 := 128#32
  let v40 : BitVec 32 := Scalar.muli v6 c128_i32
  let v41 : BitVec 32 := Scalar.addi c768_i32 v40
  let c0_i32_372 : BitVec 32 := 0#32
  ![v41.toNat, 0]
def k0_dev24 (d0 : Dev nD) : Nat :=
  let c0_i32_371 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_11 : BitVec 32 := 4#32
  let c1_i32_10 : BitVec 32 := 1#32
  let c2_i32_9 : BitVec 32 := 2#32
  let c4_i32 : BitVec 32 := 4#32
  let v6 : BitVec 32 := Scalar.divsi v2 c4_i32
  let v17 : BitVec 32 := Scalar.muli c2_i32_9 v6
  let v18 : BitVec 32 := Scalar.subi c1_i32_10 v17
  let v19 : BitVec 32 := Scalar.muli c4_i32_11 v18
  let v20 : BitVec 32 := Scalar.addi v2 v19
  let c1_i32_370 : BitVec 32 := 1#32
  let v517 : BitVec 32 := Scalar.muli v20 c1_i32_370
  let v518 : BitVec 32 := Scalar.addi c0_i32_371 v517
  v518.toNat
def k0_off16 (d0 : Dev nD) : Fin 2 → Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v21 : BitVec 32 := Scalar.addi v3 v5
  let c2_i32_12 : BitVec 32 := 2#32
  let v22 : BitVec 32 := Scalar.remsi v21 c2_i32_12
  let c192_i32_32 : BitVec 32 := 192#32
  let v45 : BitVec 32 := Scalar.muli v22 c192_i32_32
  let v46 : BitVec 32 := Scalar.addi c0_i32_33 v45
  let c256_i32 : BitVec 32 := 256#32
  ![v46.toNat, 256]
def k0_dev25 (d0 : Dev nD) : Nat :=
  let c0_i32_389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let c2_i32_2 : BitVec 32 := 2#32
  let c2_i32 : BitVec 32 := 2#32
  let v3 : BitVec 32 := Scalar.remsi v2 c2_i32
  let v7 : BitVec 32 := Scalar.muli c2_i32_2 v3
  let v8 : BitVec 32 := Scalar.subi c1_i32_3 v7
  let v9 : BitVec 32 := Scalar.addi v2 v8
  let c1_i32_388 : BitVec 32 := 1#32
  let v546 : BitVec 32 := Scalar.muli v9 c1_i32_388
  let v547 : BitVec 32 := Scalar.addi c0_i32_389 v546
  v547.toNat
def k0_off17 (d0 : Dev nD) : Fin 2 → Nat :=
  let c384_i32_38 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_0 : BitVec 32 := 2#32
  let v4 : BitVec 32 := Scalar.divsi v2 c2_i32_0
  let c2_i32_1 : BitVec 32 := 2#32
  let v5 : BitVec 32 := Scalar.remsi v4 c2_i32_1
  let c192_i32_37 : BitVec 32 := 192#32
  let v50 : BitVec 32 := Scalar.muli v5 c192_i32_37
  let v51 : BitVec 32 := Scalar.addi c384_i32_38 v50
  let c256_i32_407 : BitVec 32 := 256#32
  ![v51.toNat, 256]
def k0_dev26 (d0 : Dev nD) : Nat :=
  let c0_i32_406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let c2_i32_4 : BitVec 32 := 2#32
  let c2_i32 : BitVec 32 := 2#32
  let v3 : BitVec 32 := Scalar.remsi v2 c2_i32
  let v10 : BitVec 32 := Scalar.muli c2_i32_4 v3
  let v11 : BitVec 32 := Scalar.subi c1_i32_5 v10
  let v12 : BitVec 32 := Scalar.addi v2 v11
  let c2_i32_8 : BitVec 32 := 2#32
  let c1_i32_7 : BitVec 32 := 1#32
  let c2_i32_6 : BitVec 32 := 2#32
  let c2_i32_0 : BitVec 32 := 2#32
  let v4 : BitVec 32 := Scalar.divsi v2 c2_i32_0
  let c2_i32_1 : BitVec 32 := 2#32
  let v5 : BitVec 32 := Scalar.remsi v4 c2_i32_1
  let v13 : BitVec 32 := Scalar.muli c2_i32_6 v5
  let v14 : BitVec 32 := Scalar.subi c1_i32_7 v13
  let v15 : BitVec 32 := Scalar.muli c2_i32_8 v14
  let v16 : BitVec 32 := Scalar.addi v12 v15
  let c1_i32_405 : BitVec 32 := 1#32
  let v575 : BitVec 32 := Scalar.muli v16 c1_i32_405
  let v576 : BitVec 32 := Scalar.addi c0_i32_406 v575
  v576.toNat
def k0_off18 (d0 : Dev nD) : Fin 2 → Nat :=
  let c768_i32_43 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.divsi v2 c4_i32
  let c128_i32_42 : BitVec 32 := 128#32
  let v55 : BitVec 32 := Scalar.muli v6 c128_i32_42
  let v56 : BitVec 32 := Scalar.addi c768_i32_43 v55
  let c256_i32_425 : BitVec 32 := 256#32
  ![v56.toNat, 256]
def k0_dev27 (d0 : Dev nD) : Nat :=
  let c0_i32_424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_11 : BitVec 32 := 4#32
  let c1_i32_10 : BitVec 32 := 1#32
  let c2_i32_9 : BitVec 32 := 2#32
  let c4_i32 : BitVec 32 := 4#32
  let v6 : BitVec 32 := Scalar.divsi v2 c4_i32
  let v17 : BitVec 32 := Scalar.muli c2_i32_9 v6
  let v18 : BitVec 32 := Scalar.subi c1_i32_10 v17
  let v19 : BitVec 32 := Scalar.muli c4_i32_11 v18
  let v20 : BitVec 32 := Scalar.addi v2 v19
  let c1_i32_423 : BitVec 32 := 1#32
  let v604 : BitVec 32 := Scalar.muli v20 c1_i32_423
  let v605 : BitVec 32 := Scalar.addi c0_i32_424 v604
  v605.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩
abbrev S8x1024x512 : Shape := ⟨3, ![8, 1024, 512]⟩
abbrev S_ : Shape := ⟨0, ![]⟩
abbrev S1024x512 : Shape := ⟨2, ![1024, 512]⟩

abbrev nBuf : Space → Nat
  | .hbm => 15
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S8x1024x512, .f32⟩
  | .hbm, ⟨3, _⟩ => ⟨S_, .f32⟩
  | .hbm, ⟨4, _⟩ => ⟨S1024x512, .f32⟩
  | .hbm, ⟨5, _⟩ => ⟨S_, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Proof.Chain.lean ====
/-
# `Chain`: the names of the six chains of the kernel

The kernel works on six blocks of rows and columns, here called chains, `k = 0 … 5`: the columns' half is
`k / 3`, and the rows depend on `k % 3` and on the device. Each chain makes four exchanges, `s = 0 … 3`, each
with the partner across one axis of the cube of eight devices. This module tabulates, by chain and exchange,
the buffers, semaphores, partners and row offsets the kernel names, so that the rest of the proof is stated
once for a symbolic chain and exchange.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option backward.proofsInPublic true
set_option maxRecDepth 16384

noncomputable section

namespace Cert.CubeProof

open Cert.KernelIdeal Cert.KernelIdeal.Gen
open Idealize.ShloMosaic
open Idealize.ShloMosaic.TcCoe

variable {F : FTy → Type} [FloatOps F]

/-! ## The chains -/

/-- The rows of a chain's block. -/
@[reducible] def hgt : Fin 6 → ℕ
  | 0 => 192 | 1 => 192 | 2 => 128 | 3 => 192 | 4 => 192 | 5 => 128

/-- The shape of a chain's block. -/
@[reducible] def Sh (k : Fin 6) : Shape := ⟨2, ![hgt k, 256]⟩

/-- One of six things. -/
@[reducible] def pick {α : Sort _} (a b c d e f : α) : Fin 6 → α
  | 0 => a | 1 => b | 2 => c | 3 => d | 4 => e | 5 => f

/-- The kernel's operand, staged whole. -/
abbrev xM : Memref sig .tc .vmem S1024x512 .bf16 := Memref.whole cc0_stg0_0
/-- The kernel's result, staged whole. -/
abbrev outM : Memref sig .tc .vmem S1024x512 .bf16 := Memref.whole cc0_stg1_0

/-- The exchange buffers of chain `k`: `j = 2 s` is what exchange `s` sends, `j = 2 s + 1` where it lands. -/
@[reducible] def bufM : (k : Fin 6) → Fin 6 → Memref sig .tc .vmem (Sh k) .bf16
  | 0 => pick (.whole cc0_scratch0) (.whole cc0_scratch1) (.whole cc0_scratch2) (.whole cc0_scratch3) (.whole cc0_scratch4) (.whole cc0_scratch5)
  | 1 => pick (.whole cc0_scratch7) (.whole cc0_scratch8) (.whole cc0_scratch9) (.whole cc0_scratch10) (.whole cc0_scratch11) (.whole cc0_scratch12)
  | 2 => pick (.whole cc0_scratch14) (.whole cc0_scratch15) (.whole cc0_scratch16) (.whole cc0_scratch17) (.whole cc0_scratch18) (.whole cc0_scratch19)
  | 3 => pick (.whole cc0_scratch21) (.whole cc0_scratch22) (.whole cc0_scratch23) (.whole cc0_scratch24) (.whole cc0_scratch25) (.whole cc0_scratch26)
  | 4 => pick (.whole cc0_scratch28) (.whole cc0_scratch29) (.whole cc0_scratch30) (.whole cc0_scratch31) (.whole cc0_scratch32) (.whole cc0_scratch33)
  | 5 => pick (.whole cc0_scratch35) (.whole cc0_scratch36) (.whole cc0_scratch37) (.whole cc0_scratch38) (.whole cc0_scratch39) (.whole cc0_scratch40)

/-- The accumulator of chain `k`. -/
@[reducible] def accM : (k : Fin 6) → Memref sig .tc .vmem (Sh k) .f32
  | 0 => .whole cc0_scratch6 | 1 => .whole cc0_scratch13 | 2 => .whole cc0_scratch20
  | 3 => .whole cc0_scratch27 | 4 => .whole cc0_scratch34 | 5 => .whole cc0_scratch41

theorem buf_whole : ∀ k j, (bufM k j).IsWhole
  | 0, 0 | 0, 1 | 0, 2 | 0, 3 | 0, 4 | 0, 5 | 1, 0 | 1, 1 | 1, 2 | 1, 3 | 1, 4 | 1, 5
  | 2, 0 | 2, 1 | 2, 2 | 2, 3 | 2, 4 | 2, 5 | 3, 0 | 3, 1 | 3, 2 | 3, 3 | 3, 4 | 3, 5
  | 4, 0 | 4, 1 | 4, 2 | 4, 3 | 4, 4 | 4, 5 | 5, 0 | 5, 1 | 5, 2 | 5, 3 | 5, 4 | 5, 5 => Memref.isWhole_whole _

theorem acc_whole : ∀ k, (accM k).IsWhole
  | 0 | 1 | 2 | 3 | 4 | 5 => Memref.isWhole_whole _

theorem x_whole : xM.IsWhole := Memref.isWhole_whole _
theorem out_whole : outM.IsWhole := Memref.isWhole_whole _

/-- The semaphore on which exchange `s` of chain `k` tells its sender that the source is free. -/
@[reducible] def sendSem (k : Fin 6) (s : Fin 4) : DmaSem sig := ⟨2 + (4 * k.val + s.val), by have := k.isLt; have := s.isLt; show _ < 50; omega⟩
/-- The semaphore on which exchange `s` of chain `k` tells its receiver that the rows have landed. -/
@[reducible] def recvSem (k : Fin 6) (s : Fin 4) : DmaSem sig := ⟨26 + (4 * k.val + s.val), by have := k.isLt; have := s.isLt; show _ < 50; omega⟩

/-! ## The partners -/

/-- The device across axis `j` of the cube: its number with the bits of 1, 3 or 4 flipped. -/
def part (j : Fin 3) (c : Dev nD) : Dev nD :=
  ⟨c.val ^^^ (match j with | 0 => 1 | 1 => 3 | 2 => 4), by
    have h : ∀ (j : Fin 3) (c : Fin 8), c.val ^^^ (match j with | 0 => 1 | 1 => 3 | 2 => 4) < 8 := by decide
    exact h j c⟩

/-- The axis exchange `s` of chain `k` goes across. -/
def axis (k : Fin 6) (s : Fin 4) : Fin 3 := ⟨(k.val + s.val) % 3, Nat.mod_lt _ (by decide)⟩

/-- The device with which device `c` makes exchange `s` of chain `k`. -/
def peer (k : Fin 6) (s : Fin 4) (c : Dev nD) : Dev nD := part (axis k s) c

theorem part_part : ∀ (j : Fin 3) (c : Dev nD), part j (part j c) = c := by decide
theorem part_inj : ∀ (c : Dev nD) (i j : Fin 3), part i c = part j c → i = j := by decide
theorem part_comm : ∀ (i j : Fin 3) (c : Dev nD), part i (part j c) = part j (part i c) := by decide
@[simp] theorem peer_peer (k : Fin 6) (s : Fin 4) (c : Dev nD) : peer k s (peer k s c) = c := part_part _ _

/-- The partner as the kernel's text computes it for exchange `s` of chain `k`. -/
@[reducible] def devN : Fin 6 → Fin 4 → Dev nD → Dev nD
  | 0, 0 => fun c => ⟨k0_dev4 c, k0_dev4_lt c⟩ | 1, 0 => fun c => ⟨k0_dev5 c, k0_dev5_lt c⟩ | 2, 0 => fun c => ⟨k0_dev6 c, k0_dev6_lt c⟩
  | 3, 0 => fun c => ⟨k0_dev7 c, k0_dev7_lt c⟩ | 4, 0 => fun c => ⟨k0_dev8 c, k0_dev8_lt c⟩ | 5, 0 => fun c => ⟨k0_dev9 c, k0_dev9_lt c⟩
  | 0, 1 => fun c => ⟨k0_dev10 c, k0_dev10_lt c⟩ | 1, 1 => fun c => ⟨k0_dev11 c, k0_dev11_lt c⟩ | 2, 1 => fun c => ⟨k0_dev12 c, k0_dev12_lt c⟩
  | 3, 1 => fun c => ⟨k0_dev13 c, k0_dev13_lt c⟩ | 4, 1 => fun c => ⟨k0_dev14 c, k0_dev14_lt c⟩ | 5, 1 => fun c => ⟨k0_dev15 c, k0_dev15_lt c⟩
  | 0, 2 => fun c => ⟨k0_dev16 c, k0_dev16_lt c⟩ | 1, 2 => fun c => ⟨k0_dev17 c, k0_dev17_lt c⟩ | 2, 2 => fun c => ⟨k0_dev18 c, k0_dev18_lt c⟩
  | 3, 2 => fun c => ⟨k0_dev19 c, k0_dev19_lt c⟩ | 4, 2 => fun c => ⟨k0_dev20 c, k0_dev20_lt c⟩ | 5, 2 => fun c => ⟨k0_dev21 c, k0_dev21_lt c⟩
  | 0, 3 => fun c => ⟨k0_dev22 c, k0_dev22_lt c⟩ | 1, 3 => fun c => ⟨k0_dev23 c, k0_dev23_lt c⟩ | 2, 3 => fun c => ⟨k0_dev24 c, k0_dev24_lt c⟩
  | 3, 3 => fun c => ⟨k0_dev25 c, k0_dev25_lt c⟩ | 4, 3 => fun c => ⟨k0_dev26 c, k0_dev26_lt c⟩ | 5, 3 => fun c => ⟨k0_dev27 c, k0_dev27_lt c⟩

theorem devN_eq : ∀ (k : Fin 6) (s : Fin 4) (c : Dev nD), devN k s c = peer k s c := by decide +kernel

/-- The partner as the kernel's text computes it for its `j`-th signal. -/
@[reducible] def devB : Fin 3 → Dev nD → Dev nD
  | 0 => fun c => ⟨k0_dev1 c, k0_dev1_lt c⟩ | 1 => fun c => ⟨k0_dev2 c, k0_dev2_lt c⟩ | 2 => fun c => ⟨k0_dev3 c, k0_dev3_lt c⟩

theorem devB_eq : ∀ (j : Fin 3) (c : Dev nD), devB j c = part j c := by decide +kernel

/-! ## The rows -/

/-- Where the block of chain `k` starts that device `c` keeps. -/
@[reducible] def keepOff : Fin 6 → Dev nD → Fin 2 → ℕ
  | 0 => k0_off7 | 1 => k0_off8 | 2 => k0_off9 | 3 => k0_off10 | 4 => k0_off11 | 5 => k0_off12
/-- Where the block of chain `k` starts that device `c` sends in the first exchange. -/
@[reducible] def sendOff : Fin 6 → Dev nD → Fin 2 → ℕ
  | 0 => k0_off1 | 1 => k0_off2 | 2 => k0_off3 | 3 => k0_off4 | 4 => k0_off5 | 5 => k0_off6
/-- Where the block of chain `k` starts that device `c` sends in the last exchange. -/
@[reducible] def sliceOff : Fin 6 → Dev nD → Fin 2 → ℕ
  | 0 => k0_off13 | 1 => k0_off14 | 2 => k0_off15 | 3 => k0_off16 | 4 => k0_off17 | 5 => k0_off18

theorem sliceOff_eq : ∀ (k : Fin 6) (c : Dev nD), sliceOff k c = keepOff k c := by decide +kernel
theorem sendOff_eq : ∀ (k : Fin 6) (c : Dev nD), sendOff k c = keepOff k (peer k 0 c) := by decide +kernel
theorem keepOff_peer1 : ∀ (k : Fin 6) (c : Dev nD), keepOff k (peer k 1 c) = keepOff k c := by decide +kernel
theorem keepOff_peer2 : ∀ (k : Fin 6) (c : Dev nD), keepOff k (peer k 2 c) = keepOff k c := by decide +kernel

theorem keepOff_inb : ∀ (k : Fin 6) (c : Dev nD) (a), keepOff k c a + (Sh k).size a ≤ S1024x512.size a := by decide +kernel
theorem sendOff_inb : ∀ (k : Fin 6) (c : Dev nD) (a), sendOff k c a + (Sh k).size a ≤ S1024x512.size a := by decide +kernel
theorem sliceOff_inb : ∀ (k : Fin 6) (c : Dev nD) (a), sliceOff k c a + (Sh k).size a ≤ S1024x512.size a := by decide +kernel

theorem keepOff_packed : ∀ (k : Fin 6) (c : Dev nD),
    (Rect.unit (s := S1024x512) (keepOff k c) (Sh k).size (keepOff_inb k c)).PackedRows (EltTy.packing .bf16)
  | 0, c => k0_off7_packedbf16 c | 1, c => k0_off8_packedbf16 c | 2, c => k0_off9_packedbf16 c
  | 3, c => k0_off10_packedbf16 c | 4, c => k0_off11_packedbf16 c | 5, c => k0_off12_packedbf16 c

theorem sliceOff_words : ∀ (k : Fin 6) (c : Dev nD),
    (Rect.unit (s := S1024x512) (sliceOff k c) (Sh k).size (sliceOff_inb k c)).WholeWords (EltTy.packing .bf16)
  | 0, c => k0_off13_wordsbf16 c | 1, c => k0_off14_wordsbf16 c | 2, c => k0_off15_wordsbf16 c
  | 3, c => k0_off16_wordsbf16 c | 4, c => k0_off17_wordsbf16 c | 5, c => k0_off18_wordsbf16 c

/-! ## The shapes' facts -/

theorem pos_Sh : ∀ k : Fin 6, 0 < (Sh k).numel
  | 0 | 1 | 3 | 4 => h_S192x256
  | 2 | 5 => h_S128x256

theorem inb_Sh (k : Fin 6) : ∀ a, (![0, 0] : Fin 2 → ℕ) a + (Sh k).size a ≤ (Sh k).size a := by
  intro a; match a with
  | 0 => exact (Nat.zero_add _).le
  | 1 => exact (Nat.zero_add _).le

theorem packed_Sh : ∀ k : Fin 6, (Rect.unit (s := Sh k) ![0, 0] (Sh k).size (inb_Sh k)).PackedRows (EltTy.packing .bf16)
  | 0 | 1 | 3 | 4 => packedbf16_S192x256_S192x256_0_0
  | 2 | 5 => packedbf16_S128x256_S128x256_0_0

theorem zero2 : (![0, 0] : Fin 2 → ℕ) = fun _ => 0 := by
  funext a; match a with | 0 => rfl | 1 => rfl

/-- A chain's exchange buffers and accumulators, and the rectangle that is all of one. -/
abbrev full (k : Fin 6) : Rect (Sh k) := Rect.unit (s := Sh k) ![0, 0] (Sh k).size (inb_Sh k)

/-- The block of the result that device `c` keeps in chain `k`. -/
abbrev keepM (k : Fin 6) (c : Dev nD) : Memref sig .tc .vmem (Sh k) .bf16 :=
  outM.slice (Rect.unit (s := S1024x512) (keepOff k c) (Sh k).size (keepOff_inb k c)) (fun _ => rfl)
/-- The same, as the kernel's text computes it for the last exchange. -/
abbrev sliceM (k : Fin 6) (c : Dev nD) : Memref sig .tc .vmem (Sh k) .bf16 :=
  outM.slice (Rect.unit (s := S1024x512) (sliceOff k c) (Sh k).size (sliceOff_inb k c)) (fun _ => rfl)

theorem sliceM_eq (k : Fin 6) (c : Dev nD) : sliceM k c = keepM k c :=
  Memref.slice_unit_congr outM (sliceOff_eq k c) _ _ _ _

/-- The barrier semaphore. -/
abbrev barS : Sem sig := (SemArray.scalar (sig.barrier 0 rfl) : Sems sig S_).sem

end Cert.CubeProof
-- ==== Proof.Text.lean ====
/-
# `Text`: the kernel's body, step by step and chain by chain

The body makes six passes over the six chains. This module writes what a pass does for one symbolic chain, and
shows that the body is those passes, one after another.
-/
module

public import proofs.«01_k».proof.Proof.Chain
public import Idealize.ShloMosaic.Lib.Pipeline.Value

@[expose] public section

set_option backward.proofsInPublic true
set_option maxRecDepth 16384

noncomputable section

namespace Cert.CubeProof

open Cert.KernelIdeal Cert.KernelIdeal.Gen
open Idealize.ShloMosaic
open Idealize.ShloMosaic.TcCoe
open Idealize.SL Idealize.SL.Sem

variable {F : FTy → Type} [FloatOps F]

abbrev Pr (F : FTy → Type) [FloatOps F] := Prog (TpuEff nD τ sig (Elt F) Λ₀ .tc) PUnit

/-! ## The arithmetic on a block -/

/-- A rounded block added to an accumulated one. -/
@[reducible] def plus {s : Shape} (a : FVec F s .f32) (b : FVec F s .bf16) : FVec F s .f32 := addf a (extf .f32 b bitsLt_bf16_f32)
/-- An accumulated block, rounded. -/
@[reducible] def rnd {s : Shape} (a : FVec F s .f32) : FVec F s .bf16 := truncf .bf16 a bitsLt_bf16_f32
/-- A rounded block, read at the accumulator's type. -/
@[reducible] def wid {s : Shape} (a : FVec F s .bf16) : FVec F s .f32 := extf .f32 a bitsLt_bf16_f32
/-- The function applied to the sum `S`: `tanh S · S · S + max(S, 0)³`, rounded. -/
@[reducible] def act {s : Shape} (S : FVec F s .f32) : FVec F s .bf16 :=
  rnd (addf (mulf (mulf (tanh S) S) S)
    (mulf (mulf (maximumf S (broadcast s (Scalar.ofBits .f32 0x00000000#32))) (maximumf S (broadcast s (Scalar.ofBits .f32 0x00000000#32))))
      (maximumf S (broadcast s (Scalar.ofBits .f32 0x00000000#32)))))

/-! ## Single operations -/

abbrev ldX (k : Fin 6) (off : Fin 2 → ℕ) (inb : ∀ a, off a + (Sh k).size a ≤ S1024x512.size a) :
    Prog (TpuEff nD τ sig (Elt F) Λ₀ .tc) (Vec F (Sh k) .bf16) :=
  Prog.lift (.load xM (Rect.unit (s := S1024x512) off (Sh k).size inb).toLoadRect (View.loadsAt_vmem (pos_Sh k)))
abbrev ldB (k j : Fin 6) : Prog (TpuEff nD τ sig (Elt F) Λ₀ .tc) (Vec F (Sh k) .bf16) :=
  Prog.lift (.load (bufM k j) (full k).toLoadRect (View.loadsAt_vmem (pos_Sh k)))
abbrev ldA (k : Fin 6) : Prog (TpuEff nD τ sig (Elt F) Λ₀ .tc) (Vec F (Sh k) .f32) :=
  Prog.lift (.load (accM k) (full k).toLoadRect (View.loadsAt_vmem (pos_Sh k)))
abbrev stB (k j : Fin 6) (v : Vec F (Sh k) .bf16) : Pr F :=
  Prog.lift (.store (bufM k j) (full k) v Finset.univ (View.stores_vmem (pos_Sh k) ((buf_whole k j).storeExact_slice rfl _ (packed_Sh k)) (fun _ => rfl)) (.inl rfl))
abbrev stA (k : Fin 6) (v : Vec F (Sh k) .f32) : Pr F :=
  Prog.lift (.store (accM k) (full k) v Finset.univ (View.stores_vmem_bits_univ (pos_Sh k) rfl) (.inl rfl))

/-! ## The steps of one chain -/

/-- Load the block to send into its buffer. -/
def prepP (c : Dev nD) (k : Fin 6) : Pr F := do
  let v ← ldX k (sendOff k c) (sendOff_inb k c)
  let _ ← ldB (F := F) k 0
  stB k 0 v

/-- Send the chain's buffer `i` to the partner's buffer `j`. -/
def sendP (c : Dev nD) (s : Fin 4) (i j : Fin 6) (k : Fin 6) : Pr F :=
  Prog.lift (.enqueueDma (bufM k i) (.remote (Dev.tc (devN k s c)) (bufM k j) (.dma (sendSem k s))) (.dma (recvSem k s))
    (buf_whole k i).wordExact (buf_whole k j).wordExact ⟨⟨rfl, Or.inl rfl⟩, trivial⟩)

/-- Wait until exchange `s` has taken buffer `i` and has filled buffer `j`. -/
def waitP (s : Fin 4) (i j : Fin 6) (k : Fin 6) : Pr F := do
  Prog.lift (.waitDma2 (sendSem k s) (bufM k j) (bufM k i) (buf_whole k j).wordExact (buf_whole k i).wordExact)
  Prog.lift (.waitDma2 (recvSem k s) (bufM k i) (bufM k j) (buf_whole k i).wordExact (buf_whole k j).wordExact)

/-- The first sum: what the device keeps of its operand plus what arrived. Its rounding is sent on. -/
def step1P (c : Dev nD) (k : Fin 6) : Pr F := do
  waitP 0 0 1 k
  let x ← ldX k (keepOff k c) (keepOff_inb k c)
  let r ← ldB (F := F) k 1
  let _ ← ldA (F := F) k
  stA k (plus (wid x) r)
  let a ← ldA (F := F) k
  let _ ← ldB (F := F) k 2
  stB k 2 (rnd a)
  sendP c 1 2 3 k

/-- The second sum: the accumulator plus what arrived. Its rounding is sent on. -/
def step2P (c : Dev nD) (k : Fin 6) : Pr F := do
  waitP 1 2 3 k
  let x ← ldA (F := F) k
  let r ← ldB (F := F) k 3
  let _ ← ldA (F := F) k
  stA k (plus x r)
  let a ← ldA (F := F) k
  let _ ← ldB (F := F) k 4
  stB k 4 (rnd a)
  sendP c 2 4 5 k

/-- The third sum, the function applied to it, the kept block of the result written and sent on. -/
def step3P (c : Dev nD) (k : Fin 6) : Pr F := do
  waitP 2 4 5 k
  let x ← ldA (F := F) k
  let r ← ldB (F := F) k 5
  let _ : Vec F (Sh k) .bf16 ← Prog.lift (.load outM (Rect.unit (s := S1024x512) (keepOff k c) (Sh k).size (keepOff_inb k c)).toLoadRect (View.loadsAt_vmem (pos_Sh k)))
  Prog.lift (.store outM (Rect.unit (s := S1024x512) (keepOff k c) (Sh k).size (keepOff_inb k c)) (act (plus x r)) Finset.univ
    (View.stores_vmem (pos_Sh k) (out_whole.storeExact_slice rfl _ (keepOff_packed k c)) (fun _ => rfl)) (.inl rfl))
  Prog.lift (.enqueueDma (sliceM k c) (.remote (Dev.tc (devN k 3 c)) (sliceM k c) (.dma (sendSem k 3))) (.dma (recvSem k 3))
    (out_whole.wordExact_slice rfl _ (sliceOff_words k c)) (out_whole.wordExact_slice rfl _ (sliceOff_words k c)) ⟨⟨rfl, Or.inl rfl⟩, trivial⟩)

/-- Wait for the last exchange. -/
def step4P (c : Dev nD) (k : Fin 6) : Pr F := do
  Prog.lift (.waitDma2 (sendSem k 3) (sliceM k c) (sliceM k c) (out_whole.wordExact_slice rfl _ (sliceOff_words k c)) (out_whole.wordExact_slice rfl _ (sliceOff_words k c)))
  Prog.lift (.waitDma2 (recvSem k 3) (sliceM k c) (sliceM k c) (out_whole.wordExact_slice rfl _ (sliceOff_words k c)) (out_whole.wordExact_slice rfl _ (sliceOff_words k c)))

/-! ## The passes -/

/-- One step for each chain in turn. -/
def pass (f : Fin 6 → Pr F) : Pr F := do f 0; f 1; f 2; f 3; f 4; f 5

/-- The handshake: a unit to each partner's barrier, and three units taken from one's own. -/
def greetP (c : Dev nD) : Pr F := do
  semSignalWord (devB 0 c) barS 1#32
  semSignalWord (devB 1 c) barS 1#32
  semSignalWord (devB 2 c) barS 1#32

def bodyP : Pr F := do
  let c : Dev nD ← Prog.lift .deviceId
  greetP c
  pass (prepP c)
  semWaitWord barS 3#32
  pass (sendP c 0 0 1)
  pass (step1P c)
  pass (step2P c)
  pass (step3P c)
  pass (step4P c)

/-! ## The payloads: what each store writes, the casts between equal shapes dropped -/

/-- What the first pass stores is what it loaded. -/
theorem pay_copy : k0_pay1 (F := F) = (fun v => v) ∧ k0_pay2 (F := F) = (fun v => v) ∧ k0_pay3 (F := F) = (fun v => v) ∧ k0_pay4 (F := F) = (fun v => v) ∧ k0_pay5 (F := F) = (fun v => v) ∧ k0_pay6 (F := F) = (fun v => v) := by
  refine ⟨?_, ?_, ?_, ?_, ?_, ?_⟩ <;> (funext; simp only [k0_pay1, k0_pay2, k0_pay3, k0_pay4, k0_pay5, k0_pay6, shapeCast_self])

/-- The first sums. -/
theorem pay_add1 : k0_pay7 (F := F) = (fun x r => plus (wid x) r) ∧ k0_pay9 (F := F) = (fun x r => plus (wid x) r) ∧ k0_pay11 (F := F) = (fun x r => plus (wid x) r) ∧ k0_pay13 (F := F) = (fun x r => plus (wid x) r) ∧ k0_pay19 (F := F) = (fun x r => plus (wid x) r) := by
  refine ⟨?_, ?_, ?_, ?_, ?_⟩ <;> (funext; simp only [k0_pay7, k0_pay9, k0_pay11, k0_pay13, k0_pay19, shapeCast_self])

/-- The first sum of chain 4, which the text computes in three pieces. -/
theorem pay_split : k0_pay15 (F := F) = (fun x => x) ∧ k0_pay16 (F := F) = (fun r => wid r) ∧ k0_pay17 (F := F) = (fun x r => addf (wid x) r) := by
  refine ⟨?_, ?_, ?_⟩ <;> (funext; simp only [k0_pay15, k0_pay16, k0_pay17, shapeCast_self])

/-- The roundings. -/
theorem pay_rnd : k0_pay8 (F := F) = (fun a => rnd a) ∧ k0_pay10 (F := F) = (fun a => rnd a) ∧ k0_pay12 (F := F) = (fun a => rnd a) ∧ k0_pay14 (F := F) = (fun a => rnd a) ∧ k0_pay18 (F := F) = (fun a => rnd a) ∧ k0_pay20 (F := F) = (fun a => rnd a) ∧ k0_pay22 (F := F) = (fun a => rnd a) ∧ k0_pay24 (F := F) = (fun a => rnd a) ∧ k0_pay26 (F := F) = (fun a => rnd a) ∧ k0_pay28 (F := F) = (fun a => rnd a) ∧ k0_pay30 (F := F) = (fun a => rnd a) ∧ k0_pay32 (F := F) = (fun a => rnd a) := by
  refine ⟨?_, ?_, ?_, ?_, ?_, ?_, ?_, ?_, ?_, ?_, ?_, ?_⟩ <;> (funext; simp only [k0_pay8, k0_pay10, k0_pay12, k0_pay14, k0_pay18, k0_pay20, k0_pay22, k0_pay24, k0_pay26, k0_pay28, k0_pay30, k0_pay32, shapeCast_self])

/-- The second sums. -/
theorem pay_add2 : k0_pay21 (F := F) = (fun x r => plus x r) ∧ k0_pay23 (F := F) = (fun x r => plus x r) ∧ k0_pay25 (F := F) = (fun x r => plus x r) ∧ k0_pay27 (F := F) = (fun x r => plus x r) ∧ k0_pay29 (F := F) = (fun x r => plus x r) ∧ k0_pay31 (F := F) = (fun x r => plus x r) := by
  refine ⟨?_, ?_, ?_, ?_, ?_, ?_⟩ <;> (funext; simp only [k0_pay21, k0_pay23, k0_pay25, k0_pay27, k0_pay29, k0_pay31, shapeCast_self])

/-- The third sums and the function applied to them. -/
theorem pay_act : k0_pay33 (F := F) = (fun x r => act (plus x r)) ∧ k0_pay34 (F := F) = (fun x r => act (plus x r)) ∧ k0_pay35 (F := F) = (fun x r => act (plus x r)) ∧ k0_pay36 (F := F) = (fun x r => act (plus x r)) ∧ k0_pay37 (F := F) = (fun x r => act (plus x r)) ∧ k0_pay38 (F := F) = (fun x r => act (plus x r)) := by
  refine ⟨?_, ?_, ?_, ?_, ?_, ?_⟩ <;> (funext; simp only [k0_pay33, k0_pay34, k0_pay35, k0_pay36, k0_pay37, k0_pay38, shapeCast_self])

/-- The kernel's body at the launch's buffers. -/
abbrev printed : Pr F :=
  cc0_body xM x_whole outM out_whole (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) (Memref.whole cc0_scratch29) (Memref.isWhole_whole _) (Memref.whole cc0_scratch30) (Memref.isWhole_whole _) (Memref.whole cc0_scratch31) (Memref.isWhole_whole _) (Memref.whole cc0_scratch32) (Memref.isWhole_whole _) (Memref.whole cc0_scratch33) (Memref.isWhole_whole _) (Memref.whole cc0_scratch34) (Memref.isWhole_whole _) (Memref.whole cc0_scratch35) (Memref.isWhole_whole _) (Memref.whole cc0_scratch36) (Memref.isWhole_whole _) (Memref.whole cc0_scratch37) (Memref.isWhole_whole _) (Memref.whole cc0_scratch38) (Memref.isWhole_whole _) (Memref.whole cc0_scratch39) (Memref.isWhole_whole _) (Memref.whole cc0_scratch40) (Memref.isWhole_whole _) (Memref.whole cc0_scratch41) (Memref.isWhole_whole _) cc0_scratch42 cc0_scratch43

set_option maxHeartbeats 4000000 in
/-- The kernel's body is the six passes, one after another. -/
theorem body_eq : printed (F := F) = bodyP := by
  unfold printed
  simp only [cc0_body_eq_skeleton, cc0_body_skel, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel]
  simp only [pay_copy, pay_add1, pay_split, pay_rnd, pay_add2, pay_act]
  simp only [bodyP, greetP, pass, prepP, sendP, waitP, step1P, step2P, step3P, step4P]
  simp only [semSignalWord, semWaitWord, Prog.lift, Prog.bind_op, Prog.bind_ret, Prog.pure_eq_ret]
  rfl

end Cert.CubeProof
-- ==== Proof.Protocol.lean ====
/-
# `Protocol`: who may touch what, and when

Every exchange of every chain has a semaphore for its sender and one for its receiver, and every device has the
barrier semaphore. Each such semaphore is used for one round. This module states what a device hands over with
each unit it delivers, what it is owed, and in which order the devices wait.
-/
module

public import proofs.«01_k».proof.Proof.Text
public import Idealize.ShloMosaic.Lib.VecWindow
public import Mathlib.Algebra.BigOperators.Intervals

@[expose] public section

set_option backward.proofsInPublic true
set_option maxRecDepth 16384

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The values -/

/-- Device `c`'s operand, as the kernel finds it staged. -/
def X (c : Dev nD) : S1024x512.Idx → Elt F .bf16 :=
  (win0_0.blk (0 : Fin 1)).view.read (Elt F) ((s₀ m ρ).mem ((c : Thread nD τ).loc main_arg0))

/-- The first sum of chain `k` on device `c`, over the whole array; the chain computes the rows the device keeps. -/
def sum1 (k : Fin 6) (c : Dev nD) : FVec F S1024x512 .f32 := plus (wid (X m ρ c)) (X m ρ (peer k 0 c))
/-- The second sum. -/
def sum2 (k : Fin 6) (c : Dev nD) : FVec F S1024x512 .f32 := plus (sum1 m ρ k c) (rnd (sum1 m ρ k (peer k 1 c)))
/-- The third sum. -/
def sum3 (k : Fin 6) (c : Dev nD) : FVec F S1024x512 .f32 := plus (sum2 m ρ k c) (rnd (sum2 m ρ k (peer k 2 c)))
/-- The result. -/
def res (k : Fin 6) (c : Dev nD) : FVec F S1024x512 .bf16 := act (sum3 m ρ k c)

/-- The block of chain `k` that device `c` keeps, cut out of an array. -/
def cut {α : Type} (k : Fin 6) (c : Dev nD) (A : S1024x512.Idx → α) : (Sh k).Idx → α :=
  VecWindow.window A (keepOff k c) (Sh k).size (keepOff_inb k c)

theorem cut_at {α : Type} {k : Fin 6} {c : Dev nD} {off : Fin 2 → ℕ} (h : off = keepOff k c) (inb : ∀ a, off a + (Sh k).size a ≤ S1024x512.size a)
    (A : S1024x512.Idx → α) : (VecWindow.window A off (Sh k).size inb : (Sh k).Idx → α) = cut k c A := by
  subst h; rfl
theorem cut_congr {α : Type} {k : Fin 6} {c d : Dev nD} (h : keepOff k c = keepOff k d) (A : S1024x512.Idx → α) : cut k c A = cut k d A :=
  cut_at h _ A

/-- What device `c` sends in exchange `s` of chain `k`. -/
def val (k : Fin 6) : Fin 4 → Dev nD → (Sh k).Idx → Elt F .bf16
  | 0, c => cut k (peer k 0 c) (X m ρ c)
  | 1, c => cut k c (rnd (sum1 m ρ k c))
  | 2, c => cut k c (rnd (sum2 m ρ k c))
  | 3, c => cut k c (res m ρ k c)

/-! ## The buffers of an exchange -/

/-- What device `c` sends in exchange `s` of chain `k` lies here on `c`. -/
@[reducible] def srcM (k : Fin 6) : Fin 4 → Dev nD → Memref sig .tc .vmem (Sh k) .bf16
  | 0, _ => bufM k 0 | 1, _ => bufM k 2 | 2, _ => bufM k 4 | 3, c => keepM k c
/-- What device `c` sends in exchange `s` of chain `k` lands here on the partner. -/
@[reducible] def dstM (k : Fin 6) : Fin 4 → Dev nD → Memref sig .tc .vmem (Sh k) .bf16
  | 0, _ => bufM k 1 | 1, _ => bufM k 3 | 2, _ => bufM k 5 | 3, c => keepM k c

/-- What one transfer of chain `k` counts on a semaphore. -/
def N (k : Fin 6) : ℕ := (bufM k 0).view.dmaCredit

theorem N_pos (k : Fin 6) : 0 < N k := View.dmaCredit_pos _ (pos_Sh k)

theorem credit_src : ∀ (k : Fin 6) (s : Fin 4) (c : Dev nD), (srcM k s c).view.dmaCredit = N k
  | 0, 0, _ | 0, 1, _ | 0, 2, _ | 0, 3, _ | 1, 0, _ | 1, 1, _ | 1, 2, _ | 1, 3, _ | 2, 0, _ | 2, 1, _ | 2, 2, _ | 2, 3, _
  | 3, 0, _ | 3, 1, _ | 3, 2, _ | 3, 3, _ | 4, 0, _ | 4, 1, _ | 4, 2, _ | 4, 3, _ | 5, 0, _ | 5, 1, _ | 5, 2, _ | 5, 3, _ => rfl
theorem credit_dst : ∀ (k : Fin 6) (s : Fin 4) (c : Dev nD), (dstM k s c).view.dmaCredit = N k
  | 0, 0, _ | 0, 1, _ | 0, 2, _ | 0, 3, _ | 1, 0, _ | 1, 1, _ | 1, 2, _ | 1, 3, _ | 2, 0, _ | 2, 1, _ | 2, 2, _ | 2, 3, _
  | 3, 0, _ | 3, 1, _ | 3, 2, _ | 3, 3, _ | 4, 0, _ | 4, 1, _ | 4, 2, _ | 4, 3, _ | 5, 0, _ | 5, 1, _ | 5, 2, _ | 5, 3, _ => rfl

/-! ## The semaphores -/

/-- The semaphores of the protocol: the barrier, and a sender's (`false`) and a receiver's (`true`) per exchange. -/
abbrev Slot : Type := Option (Bool × Fin 6 × Fin 4)

@[reducible] def csem : Slot → SemLoc sig
  | none => .reg barS
  | some (false, k, s) => .dma (sendSem k s)
  | some (true, k, s) => .dma (recvSem k s)

/-- Slot `o` of device `c`. -/
abbrev kcell (co : Dev nD × Slot) : GSem nD τ sig := ((co.1 : Thread nD τ), csem co.2)

/-- Which slot a semaphore is. -/
def slotOf : SemLoc sig → Option Slot
  | .reg q => if q = barS then some none else none
  | .dma q =>
    if q.val < 2 then none
    else if q.val < 26 then some (some (false, ⟨(q.val - 2) / 4 % 6, Nat.mod_lt _ (by decide)⟩, ⟨(q.val - 2) % 4, Nat.mod_lt _ (by decide)⟩))
    else some (some (true, ⟨(q.val - 26) / 4 % 6, Nat.mod_lt _ (by decide)⟩, ⟨(q.val - 26) % 4, Nat.mod_lt _ (by decide)⟩))

theorem slotOf_csem : ∀ o : Slot, slotOf (csem o) = some o := by decide +kernel
theorem csem_inj : Function.Injective csem := fun a b h => Option.some.inj ((slotOf_csem a).symm.trans ((congrArg slotOf h).trans (slotOf_csem b)))
theorem kcell_inj : Function.Injective kcell := fun a b h => by
  obtain ⟨c, o⟩ := a; obtain ⟨d, p⟩ := b
  have h1 : c = d := congrArg (fun g : GSem nD τ sig => g.1.1) h
  have h2 : o = p := csem_inj (congrArg Prod.snd h)
  rw [h1, h2]

/-! ## The schedule -/

/-- The chains and exchanges across axis `j`, listed by a half and an exchange. -/
def chainOn (j : Fin 3) (hs : Fin 2 × Fin 4) : Fin 6 := ⟨3 * hs.1.val + (j.val + 2 * hs.2.val) % 3, by have := hs.1.isLt; omega⟩

theorem axis_chainOn : ∀ (j : Fin 3) (hs : Fin 2 × Fin 4), axis (chainOn j hs) hs.2 = j := by decide

def onAxis : Fin 3 × (Fin 2 × Fin 4) ≃ Fin 6 × Fin 4 where
  toFun p := (chainOn p.1 p.2, p.2.2)
  invFun q := (axis q.1 q.2, (⟨q.1.val / 3, by have := q.1.isLt; omega⟩, q.2))
  left_inv := by decide
  right_inv := by decide

/-- A whole memref of device `c` at contents nobody asks about. -/
def some' (c : Dev nD) {s : Shape} {e : EltTy} (M : Memref sig .tc .vmem s e) : sProp 𝕄 :=
  iprop(∃ v, owns (c : Thread nD τ) M fullShare v)

/-- What device `part j c` hands device `c` with its barrier unit: the places where `c`'s transfers to it land. -/
def barPay (c : Dev nD) (j : Fin 3) : sProp 𝕄 :=
  bigSep Finset.univ fun hs : Fin 2 × Fin 4 => some' (F := F) (part j c) (dstM (chainOn j hs) hs.2 c)
/-- What exchange `s` of chain `k` gives back to its sender: what it sent. -/
def sendPay (c : Dev nD) (k : Fin 6) (s : Fin 4) : sProp 𝕄 := owns (c : Thread nD τ) (srcM k s c) fullShare (val m ρ k s c)
/-- What exchange `s` of chain `k` delivers to device `c`: what its partner sent. -/
def recvPay (c : Dev nD) (k : Fin 6) (s : Fin 4) : sProp 𝕄 := owns (c : Thread nD τ) (dstM k s (peer k s c)) fullShare (val m ρ k s (peer k s c))

def duties' : Option Slot → Finset (Fin 3)
  | none => ∅ | some none => Finset.univ | some (some _) => {0}
def amount' : Option Slot → ℕ
  | some (some (_, k, _)) => N k | _ => 1
def payload' (c : Dev nD) (d : Fin 3) : Option Slot → sProp 𝕄
  | none => iprop(emp) | some none => barPay c d
  | some (some (false, k, s)) => sendPay m ρ c k s | some (some (true, k, s)) => recvPay m ρ c k s

/-- One round. A barrier cell has three duties of one unit, one per axis; a sender's or a receiver's cell has one duty,
    the transfer's count. -/
def Rd : Rounds.Schedule (GSem nD τ sig) (Fin 3) 𝕄 where
  duties g r := if r = 0 ∧ g.1.2 = .tc then duties' (slotOf g.2) else ∅
  unitless _ := False
  amount g _ _ := amount' (slotOf g.2)
  payload g _ d := payload' m ρ g.1.1 d (slotOf g.2)
  amount_pos g _ _ _ := by
    rcases slotOf g.2 with _ | _ | ⟨b, k, s⟩
    · exact Nat.one_pos
    · exact Nat.one_pos
    · exact N_pos k

omit [FloatOps F] in
instance some_storable (c : Dev nD) {s : Shape} {e : EltTy} (M : Memref sig .tc .vmem s e) :
    BI.Storable (upEmb : UEmb _ 𝕄) (some' (F := F) c M) := by unfold some'; infer_instance

instance Rd_payload_storable (g : GSem nD τ sig) (r : ℕ) (d : Fin 3) : BI.Storable (upEmb : UEmb _ 𝕄) ((Rd (F := F) m ρ).payload g r d) := by
  show BI.Storable upEmb (payload' m ρ g.1.1 d (slotOf g.2))
  rcases slotOf g.2 with _ | _ | ⟨_ | _, k, s⟩
  · show BI.Storable upEmb iprop(emp); infer_instance
  · show BI.Storable upEmb (barPay g.1.1 d); unfold barPay; infer_instance
  · show BI.Storable upEmb (sendPay m ρ g.1.1 k s); unfold sendPay; infer_instance
  · show BI.Storable upEmb (recvPay m ρ g.1.1 k s); unfold recvPay; infer_instance

section Sched
variable (c : Dev nD)

theorem duties_cell (o : Slot) : (Rd (F := F) m ρ).duties (kcell (c, o)) 0 = duties' (some o) := by
  dsimp only [Rd]
  rw [if_pos ⟨rfl, rfl⟩, slotOf_csem]
theorem duties_later (g : GSem nD τ sig) : ∀ r, 1 ≤ r → (Rd (F := F) m ρ).duties g r = ∅ :=
  fun r hr => by dsimp only [Rd]; rw [if_neg fun h => by omega]
theorem amount_cell (o : Slot) (r : ℕ) (d : Fin 3) : (Rd (F := F) m ρ).amount (kcell (c, o)) r d = amount' (some o) := by
  show amount' (slotOf (csem o)) = _
  rw [slotOf_csem]
theorem payload_cell (o : Slot) (r : ℕ) (d : Fin 3) : (Rd (F := F) m ρ).payload (kcell (c, o)) r d = payload' m ρ c d (some o) := by
  show payload' m ρ c d (slotOf (csem o)) = _
  rw [slotOf_csem]
theorem expect_bar : (Rd (F := F) m ρ).expect (kcell (c, none)) 0 = 3 := by
  unfold Schedule.expect Schedule.amountOf
  rw [duties_cell, Finset.sum_congr rfl fun d _ => amount_cell m ρ c none 0 d]
  rfl
theorem expect_xfer (b : Bool) (k : Fin 6) (s : Fin 4) : (Rd (F := F) m ρ).expect (kcell (c, some (b, k, s))) 0 = N k := by
  unfold Schedule.expect Schedule.amountOf
  rw [duties_cell, Finset.sum_congr rfl fun d _ => amount_cell m ρ c _ 0 d]
  exact Finset.sum_singleton _ _

/-- The barrier cell's round: what each of the three partners hands over. -/
theorem rest_bar : bigSep ((Rd (F := F) m ρ).duties (kcell (c, none)) 0 \ ∅) (fun d => (Rd (F := F) m ρ).payload (kcell (c, none)) 0 d)
    = bigSep Finset.univ fun j => barPay (F := F) c j := by
  rw [Finset.sdiff_empty, duties_cell]
  exact bigSep_congr fun d _ => payload_cell m ρ c none 0 d
/-- A transfer's cell's round: its payload. -/
theorem rest_xfer (b : Bool) (k : Fin 6) (s : Fin 4) :
    bigSep ((Rd (F := F) m ρ).duties (kcell (c, some (b, k, s))) 0 \ ∅) (fun d => (Rd (F := F) m ρ).payload (kcell (c, some (b, k, s))) 0 d)
      = payload' m ρ c 0 (some (some (b, k, s))) := by
  rw [Finset.sdiff_empty, duties_cell]
  show bigSep {0} _ = _
  rw [bigSep_singleton, payload_cell]

end Sched

/-! ## What each device owes; the levels -/

/-- The chain of a device's `i`-th transfer. -/
def kOf (i : ℕ) : Fin 6 := ⟨i % 6, Nat.mod_lt _ (by decide)⟩
/-- The exchange of a device's `i`-th transfer. -/
def sOf (i : ℕ) : Fin 4 := ⟨i / 6 % 4, Nat.mod_lt _ (by decide)⟩

/-- The number of transfers before exchange `s` of chain `k`. -/
def idx (k : Fin 6) (s : Fin 4) : ℕ := 6 * s.val + k.val

theorem kOf_idx : ∀ (k : Fin 6) (s : Fin 4), kOf (idx k s) = k := by decide
theorem sOf_idx : ∀ (k : Fin 6) (s : Fin 4), sOf (idx k s) = s := by decide

/-- What device `c` owes for exchange `s` of chain `k`. -/
def due (c : Dev nD) (k : Fin 6) (s : Fin 4) : CellTallies nD τ sig Unit := tallyAt (kcell (peer k s c, some (true, k, s))) () (N k)

/-- What device `c` owes its partners' receivers when it has made `n` transfers. -/
def O (c : Dev nD) (n : ℕ) : CellTallies nD τ sig Unit := ∑ i ∈ Finset.Ico n 24, due c (kOf i) (sOf i)

theorem O_idx (c : Dev nD) (k : Fin 6) (s : Fin 4) : O c (idx k s) = O c (idx k s + 1) + due c k s := by
  unfold O
  rw [Finset.sum_eq_sum_Ico_succ_bot (by unfold idx; have := k.isLt; have := s.isLt; omega), kOf_idx, sOf_idx, add_comm]

/-- What device `c` owes at launch: that, and a unit to each partner's barrier. -/
def OB (c : Dev nD) (n : ℕ) : CellTallies nD τ sig Unit :=
  O c 0 + ∑ i ∈ Finset.Ico n 3, tallyAt (kcell (part ⟨i % 3, Nat.mod_lt _ (by decide)⟩ c, none)) () 1

theorem OB_succ (c : Dev nD) (j : Fin 3) : OB c j.val = OB c (j.val + 1) + tallyAt (kcell (part j c, none)) () 1 := by
  unfold OB
  rw [Finset.sum_eq_sum_Ico_succ_bot j.isLt, add_comm (tallyAt _ _ _), ← add_assoc]
  congr 4
  exact congrArg (part · c) (Fin.ext (Nat.mod_eq_of_lt j.isLt))
theorem OB_three (c : Dev nD) : OB c 3 = O c 0 := by unfold OB; rw [Finset.Ico_self, Finset.sum_empty, add_zero]
theorem O_end (c : Dev nD) : O c 24 = 0 := by unfold O; rw [Finset.Ico_self, Finset.sum_empty]

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

def lev' : Option Slot → ℕ
  | some none => 1 | some (some (true, _, s)) => s.val + 2 | _ => 0
/-- Staging and senders' cells at 0, barrier cells at 1, receivers' cells above, by exchange. -/
def lv (g : GSem nD τ sig) (_ : Unit) : ℕ := lev' (slotOf g.2)

theorem lv_cell (c : Dev nD) (o : Slot) : lv (kcell (c, o)) () = lev' (some o) := by
  show lev' (slotOf (csem o)) = _; rw [slotOf_csem]

theorem O_pos {c : Dev nD} {n : ℕ} {g : GSem nD τ sig} {u : Unit} (h : 0 < O c n g u) :
    ∃ i, n ≤ i ∧ i < 24 ∧ g = kcell (peer (kOf i) (sOf i) c, some (true, kOf i, sOf i)) := by
  unfold O at h
  rw [Finset.sum_apply, Finsupp.finset_sum_apply] at h
  obtain ⟨i, hi, hp⟩ := Finset.exists_ne_zero_of_sum_ne_zero h.ne'
  rw [Finset.mem_Ico] at hi
  refine ⟨i, hi.1, hi.2, ?_⟩
  unfold due at hp
  rw [tallyAt_apply] at hp
  by_contra hg
  exact hp (if_neg fun h' => hg h'.1)

theorem OB_pos {c : Dev nD} {n : ℕ} {g : GSem nD τ sig} {u : Unit} (h : 0 < OB c n g u) :
    (∃ i, 0 ≤ i ∧ i < 24 ∧ g = kcell (peer (kOf i) (sOf i) c, some (true, kOf i, sOf i))) ∨ ∃ j, g = kcell (part j c, none) := by
  unfold OB at h
  rw [Pi.add_apply, Finsupp.add_apply] at h
  by_cases h0 : 0 < O c 0 g u
  · exact .inl (O_pos h0)
  · rw [Nat.eq_zero_of_not_pos h0, zero_add, Finset.sum_apply, Finsupp.finset_sum_apply] at h
    obtain ⟨i, hi, hp⟩ := Finset.exists_ne_zero_of_sum_ne_zero h.ne'
    rw [tallyAt_apply] at hp
    by_contra hg
    exact hp (if_neg fun h' => hg (.inr ⟨_, h'.1⟩))

/-- A device that has made `n` transfers may wait on a cell below the level of every exchange still to come. -/
theorem mayWait_O (c : Dev nD) (sm : SemLoc sig) (n : ℕ) (h : ∀ i, n ≤ i → i < 24 → lev' (slotOf sm) < (sOf i).val + 2) :
    (levAts L lv : sProp 𝕄) ⊢ MayWait (c : Thread nD τ) sm () (O c n) :=
  MayOwe.of_cut (L := L) (lev := lv) (lev' (slotOf sm)) (fun p hp => by rw [Finset.mem_singleton.mp hp, L_tc]; exact Finset.mem_singleton_self _)
    (fun g u hg => by obtain ⟨i, _, _, rfl⟩ := O_pos hg; rw [L_tc]; exact Finset.mem_singleton_self _)
    (fun p hp => by rw [Finset.mem_singleton.mp hp]; exact le_refl _)
    (fun g u hg => by obtain ⟨i, h1, h2, rfl⟩ := O_pos hg; rw [lv_cell]; exact h i h1 h2)

/-- At launch a device may wait on a staging cell. -/
theorem mayWait_stage (c : Dev nD) (sm : SemLoc sig) (hs : slotOf sm = none) :
    (levAts L lv : sProp 𝕄) ⊢ MayWait (c : Thread nD τ) sm () (OB c 0) :=
  MayOwe.of_cut (L := L) (lev := lv) 0 (fun p hp => by rw [Finset.mem_singleton.mp hp, L_tc]; exact Finset.mem_singleton_self _)
    (fun g u hg => by rcases OB_pos hg with ⟨i, _, _, rfl⟩ | ⟨j, rfl⟩ <;> rw [L_tc] <;> exact Finset.mem_singleton_self _)
    (fun p hp => by rw [Finset.mem_singleton.mp hp]; show lev' (slotOf sm) ≤ 0; rw [hs]; exact le_refl _)
    (fun g u hg => by
      rcases OB_pos hg with ⟨i, _, _, rfl⟩ | ⟨j, rfl⟩ <;> rw [lv_cell]
      · exact Nat.succ_pos _
      · exact Nat.one_pos)

end Cert.CubeProof
-- ==== Proof.Rules.lean ====
/-
# `Rules`: loads and stores of memrefs owned at known values

The single operations of the kernel, each stated for a memref that is owned at what it reads: a load continues at
that value or at a window of it, and a store leaves the memref owned at the payload.
-/
module

public import proofs.«01_k».proof.Proof.Protocol

@[expose] public section

set_option backward.proofsInPublic true
set_option maxRecDepth 16384

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a piece of the kernel's text on device `c`. -/
abbrev WP (c : Dev nD) (p : Pr F) (Q : PUnit → sProp 𝕄) : sProp 𝕄 :=
  wp frame (wpE (defs₀ (F := F)) 𝒱₀ (c : Thread nD τ) none) Set.univ p Q

section Ops

variable (c : Dev nD) {s : Shape} {e : EltTy} {M : Memref sig .tc .vmem s e} {V : s.Idx → Elt F e}

/-- A load at unit stride reads a window of what the memref is owned at. -/
theorem wp_ld_window {off size : Fin s.rank → ℕ} {inb : ∀ a, off a + size a ≤ s.size a} {hl : M.view.LoadsAt (Rect.unit off size inb).toLoadRect}
    {k : Vec F (Rect.unit off size inb).shape e → Pr F} (Q : PUnit → sProp 𝕄) :
    (owns (c : Thread nD τ) M fullShare V : sProp 𝕄)
      ⊢ iprop((owns (c : Thread nD τ) M fullShare V -∗ WP c (k (VecWindow.window V off size inb)) Q)
        -∗ WP c (.op (.load M (Rect.unit off size inb).toLoadRect hl) k) Q) := by
  iintro H Hk
  unfold owns
  icases H with ⟨%f, %hf, Hf⟩
  iapply (wp_load 𝒱₀ (c : Thread nD τ) none Set.univ (m := M) (S := M.view.set) (f := f) (Finset.map_subset_map.mpr (Finset.subset_univ _))) $$ [Hf]
  · iexact Hf
  iintro Hf
  have e1 : M.view.readAt (Elt F) (Rect.unit off size inb).toLoadRect f = VecWindow.window V off size inb := by
    rw [← hf]; rfl
  rw [e1]
  iapply Hk
  iexists f
  isplitr
  · ipureintro; exact hf
  · iexact Hf

/-- A load of the whole memref reads what it is owned at. -/
theorem wp_ld_full {off : Fin s.rank → ℕ} {inb : ∀ a, off a + s.size a ≤ s.size a} {hl : M.view.LoadsAt (Rect.unit off s.size inb).toLoadRect}
    {k : Vec F s e → Pr F} (Q : PUnit → sProp 𝕄) :
    (owns (c : Thread nD τ) M fullShare V : sProp 𝕄)
      ⊢ iprop((owns (c : Thread nD τ) M fullShare V -∗ WP c (k V) Q)
        -∗ WP c (.op (.load M (Rect.unit off s.size inb).toLoadRect hl) k) Q) := by
  have e1 : VecWindow.window V off s.size inb = V := funext fun y => congrArg V (funext fun a => Fin.ext (by
    show off a + 1 * (y a).val = (y a).val
    have := inb a; omega))
  have h := wp_ld_window (F := F) c (M := M) (V := V) (inb := inb) (hl := hl) (k := k) Q
  rw [e1] at h
  exact h

/-- A store over the whole memref leaves it owned at the payload. -/
theorem wp_st_full {off : Fin s.rank → ℕ} {inb : ∀ a, off a + s.size a ≤ s.size a} {w : Vec F s e}
    {hx : (M.access (Rect.unit off s.size inb)).Stores Finset.univ} {hm : (Finset.univ : Finset (Rect.unit off s.size inb).shape.Idx) = Finset.univ ∨ ∀ a, (Rect.unit off s.size inb).stride a = 1}
    {k : PUnit → Pr F} (Q : PUnit → sProp 𝕄) :
    (owns (c : Thread nD τ) M fullShare V : sProp 𝕄)
      ⊢ iprop((owns (c : Thread nD τ) M fullShare w -∗ WP c (k ⟨⟩) Q)
        -∗ WP c (.op (.store M (Rect.unit off s.size inb) w Finset.univ hx hm) k) Q) := by
  iintro H Hk
  unfold owns
  icases H with ⟨%f, %hf, Hf⟩
  have hsub : (M.access (Rect.unit off s.size inb)).setOn Finset.univ ⊆ M.view.set := View.set_slice_subset _ _
  iapply (wp_store 𝒱₀ (c : Thread nD τ) none Set.univ (m := M) (r := Rect.unit off s.size inb) (S := M.view.set) (f := f) hsub) $$ [Hf]
  · iexact Hf
  iintro Hf
  iapply Hk
  iexists ((M.access (Rect.unit off s.size inb)).write (Elt F) f w Finset.univ)
  isplitr
  · ipureintro
    funext y
    have hy : (Rect.unit off s.size inb).emb y = y := funext fun a => Fin.ext (by
      show off a + 1 * (y a).val = (y a).val
      have := inb a; omega)
    have := View.read_slice_write_emb (Val := Elt F) (v := M.view) (Rect.unit off s.size inb) f w (M := Finset.univ) (x := y) (Finset.mem_univ _)
    rw [hy] at this
    exact this
  · iexact Hf

/-- A load at the rectangle of a slice, whatever it reads, needs the slice only. -/
theorem wp_ld_slice {off size : Fin s.rank → ℕ} {inb : ∀ a, off a + size a ≤ s.size a} {hl : M.view.LoadsAt (Rect.unit off size inb).toLoadRect}
    {V : Vec F (Rect.unit off size inb).shape e} {k : Vec F (Rect.unit off size inb).shape e → Pr F} (Q : PUnit → sProp 𝕄) :
    (owns (c : Thread nD τ) (M.slice (Rect.unit off size inb) (fun _ => rfl)) fullShare V : sProp 𝕄)
      ⊢ iprop((owns (c : Thread nD τ) (M.slice (Rect.unit off size inb) (fun _ => rfl)) fullShare V -∗ WP c (k V) Q)
        -∗ WP c (.op (.load M (Rect.unit off size inb).toLoadRect hl) k) Q) := by
  iintro H Hk
  unfold owns
  icases H with ⟨%f, %hf, Hf⟩
  iapply (wp_load_rect 𝒱₀ (c : Thread nD τ) none Set.univ (m := M) (r := Rect.unit off size inb) (S := (M.access (Rect.unit off size inb)).set) (f := f) (Finset.Subset.refl _)) $$ [Hf]
  · iexact Hf
  iintro Hf
  have e1 : (M.access (Rect.unit off size inb)).read (Elt F) f = V := hf
  rw [e1]
  iapply Hk
  iexists f
  isplitr
  · ipureintro; exact hf
  · iexact Hf

/-- A store at the rectangle of a slice leaves the slice owned at the payload. -/
theorem wp_st_slice {off size : Fin s.rank → ℕ} {inb : ∀ a, off a + size a ≤ s.size a} {w : Vec F (Rect.unit off size inb).shape e}
    {V : Vec F (Rect.unit off size inb).shape e}
    {hx : (M.access (Rect.unit off size inb)).Stores Finset.univ} {hm : (Finset.univ : Finset (Rect.unit off size inb).shape.Idx) = Finset.univ ∨ ∀ a, (Rect.unit off size inb).stride a = 1}
    {k : PUnit → Pr F} (Q : PUnit → sProp 𝕄) :
    (owns (c : Thread nD τ) (M.slice (Rect.unit off size inb) (fun _ => rfl)) fullShare V : sProp 𝕄)
      ⊢ iprop((owns (c : Thread nD τ) (M.slice (Rect.unit off size inb) (fun _ => rfl)) fullShare w -∗ WP c (k ⟨⟩) Q)
        -∗ WP c (.op (.store M (Rect.unit off size inb) w Finset.univ hx hm) k) Q) := by
  iintro H Hk
  unfold owns
  icases H with ⟨%f, %hf, Hf⟩
  iapply (wp_store 𝒱₀ (c : Thread nD τ) none Set.univ (m := M) (r := Rect.unit off size inb) (S := (M.access (Rect.unit off size inb)).set) (f := f) (Finset.Subset.refl _)) $$ [Hf]
  · iexact Hf
  iintro Hf
  iapply Hk
  iexists ((M.access (Rect.unit off size inb)).write (Elt F) f w Finset.univ)
  isplitr
  · ipureintro
    exact View.read_write_univ _ _
  · iexact Hf

end Ops

end Cert.CubeProof
-- ==== Proof.Steps.lean ====
/-
# `Steps`: what one step of one chain does

Each step of a chain takes the chain's exchanges from one state to the next: an exchange may still be made
(`tix`), is on its way (`fly`), or is over (`don`). The chain is arbitrary throughout.
-/
module

public import proofs.«01_k».proof.Proof.Rules

@[expose] public section

set_option backward.proofsInPublic true
set_option maxRecDepth 16384

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Composing -/

/-- Run from `A`, the text `p` ends in `B`. -/
def Trip (c : Dev nD) (p : Pr F) (A B : sProp 𝕄) : Prop :=
  ∀ (K : PUnit → Pr F) (Q : PUnit → sProp 𝕄), A ⊢ iprop((B -∗ WP c (K ⟨⟩) Q) -∗ WP c (p >>= K) Q)

theorem Trip.seq {c : Dev nD} {p q : Pr F} {A B C : sProp 𝕄} (h : Trip c p A B) (h' : Trip c q B C) : Trip c (p >>= fun _ => q) A C := by
  intro K Q
  rw [bind_assoc]
  iintro HA Hk
  iapply (h (fun _ => q >>= K) Q) $$ HA
  iintro HB
  iapply (h' K Q) $$ HB
  iexact Hk

theorem Trip.frame {c : Dev nD} {p : Pr F} {A B : sProp 𝕄} (h : Trip c p A B) (R : sProp 𝕄) : Trip c p iprop(A ∗ R) iprop(B ∗ R) := by
  intro K Q
  iintro ⟨HA, HR⟩ Hk
  iapply (h K Q) $$ HA
  iintro HB
  iapply Hk
  isplitl [HB] <;> iassumption

theorem Trip.conseq {c : Dev nD} {p : Pr F} {A B A' B' : sProp 𝕄} (h : Trip c p A B) (hA : A' ⊢ A) (hB : B ⊢ B') : Trip c p A' B' := by
  intro K Q
  iintro HA Hk
  ihave HA := hA $$ HA
  iapply (h K Q) $$ HA
  iintro HB
  iapply Hk
  iapply hB
  iexact HB

theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

/-- A pass over the chains: what is shared goes from chain to chain, what is a chain's own is changed by its step. -/
theorem Trip.pass {c : Dev nD} {f : Fin 6 → Pr F} {A B : Fin 6 → sProp 𝕄} {R : ℕ → sProp 𝕄}
    (h : ∀ k, Trip c (f k) iprop(A k ∗ R k.val) iprop(B k ∗ R (k.val + 1))) :
    Trip c (pass f) iprop(bigSep Finset.univ A ∗ R 0) iprop(bigSep Finset.univ B ∗ R 6) := by
  have h0 : Trip c (f 0) iprop(A 0 ∗ R 0) iprop(B 0 ∗ R 1) := h 0
  have h1 : Trip c (f 1) iprop(A 1 ∗ R 1) iprop(B 1 ∗ R 2) := h 1
  have h2 : Trip c (f 2) iprop(A 2 ∗ R 2) iprop(B 2 ∗ R 3) := h 2
  have h3 : Trip c (f 3) iprop(A 3 ∗ R 3) iprop(B 3 ∗ R 4) := h 3
  have h4 : Trip c (f 4) iprop(A 4 ∗ R 4) iprop(B 4 ∗ R 5) := h 4
  have h5 : Trip c (f 5) iprop(A 5 ∗ R 5) iprop(B 5 ∗ R 6) := h 5
  intro K Q
  unfold Cert.CubeProof.pass
  simp only [bind_assoc]
  rw [bigSep_six, bigSep_six]
  iintro ⟨⟨H0, H1, H2, H3, H4, H5⟩, HR⟩ Hk
  iapply (h0 _ Q) $$ [H0 HR]; · (isplitl [H0] <;> iassumption)
  iintro ⟨H0, HR⟩
  iapply (h1 _ Q) $$ [H1 HR]; · (isplitl [H1] <;> iassumption)
  iintro ⟨H1, HR⟩
  iapply (h2 _ Q) $$ [H2 HR]; · (isplitl [H2] <;> iassumption)
  iintro ⟨H2, HR⟩
  iapply (h3 _ Q) $$ [H3 HR]; · (isplitl [H3] <;> iassumption)
  iintro ⟨H3, HR⟩
  iapply (h4 _ Q) $$ [H4 HR]; · (isplitl [H4] <;> iassumption)
  iintro ⟨H4, HR⟩
  iapply (h5 _ Q) $$ [H5 HR]; · (isplitl [H5] <;> iassumption)
  iintro ⟨H5, HR⟩
  iapply Hk
  isplitr [HR]
  · isplitl [H0]; · iexact H0
    isplitl [H1]; · iexact H1
    isplitl [H2]; · iexact H2
    isplitl [H3]; · iexact H3
    isplitl [H4] <;> iassumption
  · iexact HR

/-! ## The states of an exchange -/

variable (K : Dev nD × Slot → ℕ)

/-- Every semaphore of the protocol is governed by the schedule, at round 0; the levels. -/
def records : sProp 𝕄 :=
  iprop((bigSep Finset.univ fun co : Dev nD × Slot => iprop(cellInv ER (Rd (F := F) m ρ) (K co) (kcell co) ∗ reached ER (kcell co) 0)) ∗ levAts L lv)

instance records_persistent : Persistent (records (F := F) m ρ K) := by unfold records; infer_instance

theorem records_at (co : Dev nD × Slot) :
    records (F := F) m ρ K ⊢ iprop(cellInv ER (Rd (F := F) m ρ) (K co) (kcell co) ∗ reached ER (kcell co) 0) := by
  unfold records
  have h : (bigSep Finset.univ fun co : Dev nD × Slot => iprop(cellInv ER (Rd (F := F) m ρ) (K co) (kcell co) ∗ reached ER (kcell co) 0))
      ⊢ (iprop(cellInv ER (Rd (F := F) m ρ) (K co) (kcell co) ∗ reached ER (kcell co) 0) : sProp 𝕄) := bigSep_elim (Finset.mem_univ co)
  iintro ⟨H, -⟩
  iapply h
  iexact H

/-- What device `c` holds for an exchange still to be made, but for where it lands. -/
def tix0 (c : Dev nD) (k : Fin 6) (s : Fin 4) : sProp 𝕄 :=
  iprop(atPos ER (kcell (c, some (false, k, s))) 0 ∅ 0 ∗ atPos ER (kcell (c, some (true, k, s))) 0 ∅ 0
    ∗ cred (tallyAt (kcell (c, some (true, k, s))) () (N k))
    ∗ dutyTok ER (kcell (c, some (false, k, s))) 0 0 ∗ dutyTok ER (kcell (peer k s c, some (true, k, s))) 0 0)
/-- That, and where it lands on the partner. -/
def tix (c : Dev nD) (k : Fin 6) (s : Fin 4) : sProp 𝕄 := iprop(tix0 (F := F) c k s ∗ some' (F := F) (peer k s c) (dstM k s c))
/-- What it holds while the exchange is on its way. -/
def fly (c : Dev nD) (k : Fin 6) (s : Fin 4) : sProp 𝕄 :=
  iprop(atPos ER (kcell (c, some (false, k, s))) 0 ∅ 0 ∗ atPos ER (kcell (c, some (true, k, s))) 0 ∅ 0
    ∗ cred (tallyAt (kcell (c, some (true, k, s))) () (N k)) ∗ cred (tallyAt (kcell (c, some (false, k, s))) () (N k)))
/-- What it holds when the exchange is over: both counters at zero, what it sent and what it received. -/
def don (c : Dev nD) (k : Fin 6) (s : Fin 4) : sProp 𝕄 :=
  iprop((semVal (kcell (c, some (false, k, s))) 0 ∗ semVal (kcell (c, some (true, k, s))) 0) ∗ sendPay m ρ c k s ∗ recvPay m ρ c k s)

/-- What the chains share: the records, what device `c` still owes when it has made `n` transfers, its operand. -/
def shared (c : Dev nD) (n : ℕ) : sProp 𝕄 :=
  iprop(records m ρ K ∗ (∃ W, owes (c : Thread nD τ) (O c n) W) ∗ owns (c : Thread nD τ) xM fullShare (X m ρ c))

/-! ## Sending and waiting -/

/-- A transfer of exchange `s`. -/
theorem wp_send (c : Dev nD) (k : Fin 6) (s : Fin 4) {n : Dev nD} (hn : n = peer k s c)
    {src dst : Memref sig .tc .vmem (Sh k) .bf16} (hs : src = srcM k s c) (hd : dst = dstM k s c)
    {hsc : (dst : Memref sig (Dev.tc n : Thread nD τ).2.kind .vmem (Sh k) .bf16).view.ref.isScScratch = false}
    {hsrc : src.view.WordExact} {hdst : dst.view.WordExact}
    {hsem : DmaTarget.Typed .vmem (.dma (recvSem k s)) (.remote (Dev.tc n : Thread nD τ) dst (.dma (sendSem k s)) hsc)}
    (kk : PUnit → Pr F) (Q : PUnit → sProp 𝕄) :
    iprop(records m ρ K ∗ tix c k s ∗ sendPay m ρ c k s ∗ (∃ W, owes (c : Thread nD τ) (O c (idx k s)) W))
      ⊢ iprop(((fly c k s ∗ ∃ W, owes (c : Thread nD τ) (O c (idx k s + 1)) W) -∗ WP c (kk ⟨⟩) Q)
        -∗ WP c (.op (.enqueueDma src (.remote (Dev.tc n : Thread nD τ) dst (.dma (sendSem k s)) hsc) (.dma (recvSem k s)) hsrc hdst hsem) kk) Q) := by
  subst hn
  unfold tix tix0 sendPay some' owns
  rw [← hs, ← hd]
  iintro ⟨#HR, ⟨⟨HaS, HaV, HcV, HtS, HtV⟩, ⟨%v, %fd, -, Hd⟩⟩, ⟨%fs, %hfs, Hs⟩, ⟨%W, HO⟩⟩ Hk
  ihave H1 := (records_at m ρ K (c, some (false, k, s))) $$ HR
  icases H1 with ⟨#HI1, #Hr1⟩
  ihave H2 := (records_at m ρ K (peer k s c, some (true, k, s))) $$ HR
  icases H2 with ⟨#HI2, #Hr2⟩
  have hpay₁ : ((src.view.loc (c : Thread nD τ)) ↦[src.view.set]{fullShare} fs : sProp 𝕄) ⊢ (Rd (F := F) m ρ).payload (kcell (c, some (false, k, s))) 0 0 := by
    rw [payload_cell]
    show _ ⊢ sendPay m ρ c k s
    unfold sendPay owns
    rw [← hs]
    iintro H
    iexists fs
    isplitr
    · ipureintro; exact hfs
    · iexact H
  have hpay₂ : ((dst.view.loc (peer k s c : Thread nD τ)) ↦[dst.view.set]{fullShare} (dst.view.write (Elt F) fd (src.view.read (Elt F) fs) Finset.univ) : sProp 𝕄)
      ⊢ (Rd (F := F) m ρ).payload (kcell (peer k s c, some (true, k, s))) 0 0 := by
    rw [payload_cell]
    show _ ⊢ recvPay m ρ (peer k s c) k s
    unfold recvPay owns
    rw [peer_peer, ← hd]
    iintro H
    iexists (dst.view.write (Elt F) fd (src.view.read (Elt F) fs) Finset.univ)
    isplitr
    · ipureintro; exact (View.read_write_univ _ _).trans hfs
    · iexact H
  iapply (Rounds.wp_send_pointsTo 𝒱₀ ER (Rd (F := F) m ρ) (c : Thread nD τ) none (κ₁ := K (c, some (false, k, s))) (κ₂ := K (peer k s c, some (true, k, s)))
    (c' := (peer k s c : Thread nD τ)) (r₁ := 0) (r₂ := 0) (d₁ := 0) (d₂ := 0) (fd := fd) (src := src) (dst := dst) (sS := .dma (sendSem k s)) (sem := .dma (recvSem k s))
    (by rw [duties_cell m ρ c (some (false, k, s))]; exact Finset.mem_singleton_self _)
    (by rw [duties_cell m ρ (peer k s c) (some (true, k, s))]; exact Finset.mem_singleton_self _)
    () () (N k) (by rw [hd]; exact credit_dst k s c) (amount_cell m ρ c (some (false, k, s)) 0 0) (amount_cell m ρ (peer k s c) (some (true, k, s)) 0 0)
    (O c (idx k s + 1)) (O_idx c k s) (W := W) hpay₁ hpay₂) $$ [Hs Hd HO HtS HtV]
  · isplitr; · iexact HI1
    isplitr; · iexact HI2
    isplitl [Hs]; · iexact Hs
    isplitl [Hd]; · iexact Hd
    isplitl [HO]; · iexact HO
    isplitl [HtS]; · iexact HtS
    isplitr; · iexact Hr1
    isplitl [HtV]; · iexact HtV
    iexact Hr2
  iintro ⟨HcS, HO⟩
  iapply Hk
  isplitr [HO]
  · unfold fly
    isplitl [HaS]; · iexact HaS
    isplitl [HaV]; · iexact HaV
    isplitl [HcV] <;> iassumption
  · iexists W; iexact HO

/-- A wait for the round of one of an exchange's semaphores: what the round carries, and the counter at zero. -/
theorem wp_wait (c : Dev nD) (b : Bool) (k : Fin 6) (s : Fin 4) (n : ℕ) (hlev : ∀ i, n ≤ i → i < 24 → lev' (some (some (b, k, s))) < (sOf i).val + 2)
    {sem : DmaSem sig} (hsem : SemLoc.dma sem = csem (some (b, k, s)))
    {src dst : Memref sig .tc .vmem (Sh k) .bf16} (hc : dst.view.dmaCredit = N k) {hsrc : src.view.WordExact} {hdst : dst.view.WordExact}
    (kk : PUnit → Pr F) (Q : PUnit → sProp 𝕄) :
    iprop(records m ρ K ∗ cred (tallyAt (kcell (c, some (b, k, s))) () (N k)) ∗ (∃ W, owes (c : Thread nD τ) (O c n) W)
        ∗ atPos ER (kcell (c, some (b, k, s))) 0 ∅ 0)
      ⊢ iprop((((∃ W, owes (c : Thread nD τ) (O c n) W) ∗ semVal (kcell (c, some (b, k, s))) 0 ∗ payload' m ρ c 0 (some (some (b, k, s)))) -∗ WP c (kk ⟨⟩) Q)
        -∗ WP c (.op (.waitDma2 sem src dst hsrc hdst) kk) Q) := by
  iintro ⟨#HR, Hc, ⟨%W, HO⟩, Hat⟩ Hk
  ihave H1 := (records_at m ρ K (c, some (b, k, s))) $$ HR
  icases H1 with ⟨#HI, -⟩
  iapply (Rounds.wp_wait_rest_token 𝒱₀ ER (Rd (F := F) m ρ) (c : Thread nD τ) none (κ := K (c, some (b, k, s))) (sm := csem (some (b, k, s))) (k' := N k)
      (fun K' => by rw [← hsem, ← hc]; exact wpE_waitDma2_eq 𝒱₀ (c : Thread nD τ) none Set.univ K') (Set.mem_univ _) () (O := O c n) (W := W) (R := 0) (m := 0) (T := ∅)
      (by rw [Nat.zero_add, expect_xfer m ρ c b k s])) $$ [Hc HO Hat]
  · isplitr; · iexact HI
    isplitl [Hc]; · iexact Hc
    isplitl [HO]; · iexact HO
    isplitr
    · iapply (mayWait_O c (csem (some (b, k, s))) n (by rw [slotOf_csem]; exact hlev))
      unfold records
      icases HR with ⟨-, Hl⟩
      iexact Hl
    iexact Hat
  iintro ⟨HO, Hat, -, Hpay⟩
  ihave Hpay := (Entails.of_eq (rest_xfer m ρ c b k s)) $$ Hpay
  imod (Rounds.cell_close ER (Rd (F := F) m ρ) (Set.mem_univ (K (c, some (b, k, s)))) (fun h => h) (R := 0 + 1) (duties_later m ρ (kcell (c, some (b, k, s))))) $$ [Hat] with Hz
  · isplitr; · iexact HI
    iexact Hat
  iapply Hk
  isplitl [HO]; · (iexists _; iexact HO)
  isplitl [Hz] <;> iassumption

theorem pay_send (c : Dev nD) (k : Fin 6) (s : Fin 4) : payload' m ρ c 0 (some (some (false, k, s))) = sendPay m ρ c k s := rfl
theorem pay_recv (c : Dev nD) (k : Fin 6) (s : Fin 4) : payload' m ρ c 0 (some (some (true, k, s))) = recvPay m ρ c k s := rfl

/-- Both waits of an exchange. -/
theorem wp_waits (c : Dev nD) (k : Fin 6) (s : Fin 4) (n : ℕ) (hlev : ∀ i, n ≤ i → i < 24 → s.val < (sOf i).val)
    {src dst src' dst' : Memref sig .tc .vmem (Sh k) .bf16} (hc : dst.view.dmaCredit = N k) (hc' : dst'.view.dmaCredit = N k)
    {hsrc : src.view.WordExact} {hdst : dst.view.WordExact} {hsrc' : src'.view.WordExact} {hdst' : dst'.view.WordExact}
    (kk : PUnit → Pr F) (Q : PUnit → sProp 𝕄) :
    iprop(records m ρ K ∗ fly c k s ∗ (∃ W, owes (c : Thread nD τ) (O c n) W))
      ⊢ iprop(((don m ρ c k s ∗ ∃ W, owes (c : Thread nD τ) (O c n) W) -∗ WP c (kk ⟨⟩) Q)
        -∗ WP c (.op (.waitDma2 (sendSem k s) src dst hsrc hdst) fun _ => .op (.waitDma2 (recvSem k s) src' dst' hsrc' hdst') kk) Q) := by
  unfold fly
  iintro ⟨#HR, ⟨HaS, HaV, HcV, HcS⟩, HO⟩ Hk
  iapply (wp_wait m ρ K c false k s n (fun i h1 h2 => Nat.succ_pos _) rfl hc) $$ [HcS HO HaS]
  · isplitr; · iexact HR
    isplitl [HcS]; · iexact HcS
    isplitl [HO] <;> iassumption
  iintro ⟨HO, HzS, HpS⟩
  iapply (wp_wait m ρ K c true k s n (fun i h1 h2 => Nat.add_lt_add_right (hlev i h1 h2) 2) rfl hc') $$ [HcV HO HaV]
  · isplitr; · iexact HR
    isplitl [HcV]; · iexact HcV
    isplitl [HO] <;> iassumption
  iintro ⟨HO, HzV, HpV⟩
  iapply Hk
  unfold don
  isplitr [HO]
  · isplitl [HzS HzV]
    · isplitl [HzS] <;> iassumption
    isplitl [HpS]
    · iapply (Entails.of_eq (pay_send m ρ c k s)) $$ HpS
    · iapply (Entails.of_eq (pay_recv m ρ c k s)) $$ HpV
  · iexact HO

theorem after (k : Fin 6) (s : Fin 4) (i : ℕ) (h : 6 * s.val + 6 + k.val ≤ i) (h2 : i < 24) : s.val < (sOf i).val := by
  show s.val < i / 6 % 4
  have := k.isLt
  omega

/-! ## The steps -/

theorem send_0 (c : Dev nD) (k : Fin 6) : sendPay m ρ c k 0 = owns (c : Thread nD τ) (bufM k 0) fullShare (cut k (peer k 0 c) (X m ρ c)) := rfl
theorem send_1 (c : Dev nD) (k : Fin 6) : sendPay m ρ c k 1 = owns (c : Thread nD τ) (bufM k 2) fullShare (rnd (cut k c (sum1 m ρ k c))) := rfl
theorem send_2 (c : Dev nD) (k : Fin 6) : sendPay m ρ c k 2 = owns (c : Thread nD τ) (bufM k 4) fullShare (rnd (cut k c (sum2 m ρ k c))) := rfl
theorem send_3 (c : Dev nD) (k : Fin 6) : sendPay m ρ c k 3 = owns (c : Thread nD τ) (keepM k c) fullShare (cut k c (res m ρ k c)) := rfl
theorem recv_0 (c : Dev nD) (k : Fin 6) : recvPay m ρ c k 0 = owns (c : Thread nD τ) (bufM k 1) fullShare (cut k c (X m ρ (peer k 0 c))) := by
  show owns _ _ _ (cut k (peer k 0 (peer k 0 c)) (X m ρ (peer k 0 c))) = _
  rw [peer_peer]
theorem recv_1 (c : Dev nD) (k : Fin 6) : recvPay m ρ c k 1 = owns (c : Thread nD τ) (bufM k 3) fullShare (cut k c (rnd (sum1 m ρ k (peer k 1 c)))) := by
  exact congrArg (owns (c : Thread nD τ) _ fullShare) (cut_congr (keepOff_peer1 k c) _)
theorem recv_2 (c : Dev nD) (k : Fin 6) : recvPay m ρ c k 2 = owns (c : Thread nD τ) (bufM k 5) fullShare (cut k c (rnd (sum2 m ρ k (peer k 2 c)))) := by
  exact congrArg (owns (c : Thread nD τ) _ fullShare) (cut_congr (keepOff_peer2 k c) _)
theorem recv_3 (c : Dev nD) (k : Fin 6) :
    recvPay m ρ c k 3 = owns (c : Thread nD τ) (keepM k (peer k 3 c)) fullShare (cut k (peer k 3 c) (res m ρ k (peer k 3 c))) := rfl

theorem sum1_cut (c : Dev nD) (k : Fin 6) :
    plus (wid (VecWindow.window (X m ρ c) (keepOff k c) (Sh k).size (keepOff_inb k c))) (cut k c (X m ρ (peer k 0 c))) = cut k c (sum1 m ρ k c) := rfl
theorem sum2_cut (c : Dev nD) (k : Fin 6) :
    plus (cut k c (sum1 m ρ k c)) (cut k c (rnd (sum1 m ρ k (peer k 1 c)))) = cut k c (sum2 m ρ k c) := rfl
theorem res_cut (c : Dev nD) (k : Fin 6) :
    act (plus (cut k c (sum2 m ρ k c)) (cut k c (rnd (sum2 m ρ k (peer k 2 c))))) = cut k c (res m ρ k c) := rfl

theorem prep_trip (c : Dev nD) (k : Fin 6) :
    Trip c (prepP c k) iprop(some' (F := F) c (bufM k 0) ∗ owns (c : Thread nD τ) xM fullShare (X m ρ c))
      iprop(sendPay m ρ c k 0 ∗ owns (c : Thread nD τ) xM fullShare (X m ρ c)) := by
  intro kk Q
  unfold prepP some'
  simp only [Prog.lift, Prog.bind_op, Prog.bind_ret, bind_assoc]
  iintro ⟨⟨%v, Hb⟩, Hx⟩ Hk
  iapply (wp_ld_window c) $$ Hx; iintro Hx
  iapply (wp_ld_full c) $$ Hb; iintro Hb
  iapply (wp_st_full c) $$ Hb; iintro Hb
  iapply Hk
  isplitr [Hx]
  · rw [cut_at (sendOff_eq k c), send_0]
    iexact Hb
  · iexact Hx

/-- The first transfer. -/
theorem send_trip (c : Dev nD) (k : Fin 6) :
    Trip c (sendP c 0 0 1 k) iprop((sendPay m ρ c k 0 ∗ tix c k 0) ∗ shared m ρ K c (6 * 0 + k.val))
      iprop(fly c k 0 ∗ shared m ρ K c (6 * 0 + (k.val + 1))) := by
  intro kk Q
  unfold sendP shared
  simp only [Prog.lift, Prog.bind_op, Prog.bind_ret]
  iintro ⟨⟨Hp, Ht⟩, ⟨#HR, HO, Hx⟩⟩ Hk
  iapply (wp_send m ρ K c k 0 (devN_eq k 0 c) rfl rfl) $$ [Hp Ht HO]
  · isplitr; · iexact HR
    isplitl [Ht]; · iexact Ht
    isplitl [Hp]; · iexact Hp
    iexact HO
  iintro ⟨Hf, HO⟩
  iapply Hk
  isplitl [Hf]; · iexact Hf
  isplitr; · iexact HR
  isplitl [HO]
  · iexact HO
  · iexact Hx

/-- The first sum. -/
theorem step1_trip (c : Dev nD) (k : Fin 6) :
    Trip c (step1P c k)
      iprop((fly c k 0 ∗ tix c k 1 ∗ some' (F := F) c (bufM k 2) ∗ some' (F := F) c (accM k)) ∗ shared m ρ K c (6 * 1 + k.val))
      iprop((don m ρ c k 0 ∗ fly c k 1 ∗ owns (c : Thread nD τ) (accM k) fullShare (cut k c (sum1 m ρ k c))) ∗ shared m ρ K c (6 * 1 + (k.val + 1))) := by
  intro kk Q
  unfold step1P waitP sendP shared some'
  simp only [Prog.lift, Prog.bind_op, Prog.bind_ret, bind_assoc]
  iintro ⟨⟨Hf, Ht, ⟨%v2, Hb2⟩, ⟨%va, Hacc⟩⟩, ⟨#HR, HO, Hx⟩⟩ Hk
  iapply (wp_waits m ρ K c k 0 (6 * 1 + k.val) (after k 0) (credit_src k 0 c) (credit_dst k 0 c)) $$ [Hf HO]
  · isplitr; · iexact HR
    isplitl [Hf] <;> iassumption
  iintro ⟨Hd, HO⟩
  unfold don
  icases Hd with ⟨Hz, Hp, Hv⟩
  ihave Hv := (Entails.of_eq (recv_0 m ρ c k)) $$ Hv
  iapply (wp_ld_window c) $$ Hx; iintro Hx
  iapply (wp_ld_full c) $$ Hv; iintro Hv
  iapply (wp_ld_full c) $$ Hacc; iintro Hacc
  iapply (wp_st_full c) $$ Hacc; iintro Hacc
  ihave Hacc := (Entails.of_eq (congrArg (owns (c : Thread nD τ) (accM k) fullShare) (sum1_cut m ρ c k))) $$ Hacc
  iapply (wp_ld_full c) $$ Hacc; iintro Hacc
  iapply (wp_ld_full c) $$ Hb2; iintro Hb2
  iapply (wp_st_full c) $$ Hb2; iintro Hb2
  iapply (wp_send m ρ K c k 1 (devN_eq k 1 c) rfl rfl) $$ [Hb2 Ht HO]
  · isplitr; · iexact HR
    isplitl [Ht]; · iexact Ht
    isplitl [Hb2]; · (rw [send_1]; iexact Hb2)
    iexact HO
  iintro ⟨Hf, HO⟩
  iapply Hk
  isplitr [HO Hx]
  · isplitl [Hz Hp Hv]
    · isplitl [Hz]; · iexact Hz
      isplitl [Hp]; · iexact Hp
      iapply (Entails.of_eq (recv_0 m ρ c k).symm) $$ Hv
    isplitl [Hf] <;> iassumption
  isplitr; · iexact HR
  isplitl [HO]
  · iexact HO
  · iexact Hx

/-- The second sum. -/
theorem step2_trip (c : Dev nD) (k : Fin 6) :
    Trip c (step2P c k)
      iprop((fly c k 1 ∗ tix c k 2 ∗ some' (F := F) c (bufM k 4) ∗ owns (c : Thread nD τ) (accM k) fullShare (cut k c (sum1 m ρ k c))) ∗ shared m ρ K c (6 * 2 + k.val))
      iprop((don m ρ c k 1 ∗ fly c k 2 ∗ owns (c : Thread nD τ) (accM k) fullShare (cut k c (sum2 m ρ k c))) ∗ shared m ρ K c (6 * 2 + (k.val + 1))) := by
  intro kk Q
  unfold step2P waitP sendP shared some'
  simp only [Prog.lift, Prog.bind_op, Prog.bind_ret, bind_assoc]
  iintro ⟨⟨Hf, Ht, ⟨%v2, Hb⟩, Hacc⟩, ⟨#HR, HO, Hx⟩⟩ Hk
  iapply (wp_waits m ρ K c k 1 (6 * 2 + k.val) (after k 1) (credit_src k 1 c) (credit_dst k 1 c)) $$ [Hf HO]
  · isplitr; · iexact HR
    isplitl [Hf] <;> iassumption
  iintro ⟨Hd, HO⟩
  unfold don
  icases Hd with ⟨Hz, Hp, Hv⟩
  ihave Hv := (Entails.of_eq (recv_1 m ρ c k)) $$ Hv
  iapply (wp_ld_full c) $$ Hacc; iintro Hacc
  iapply (wp_ld_full c) $$ Hv; iintro Hv
  iapply (wp_ld_full c) $$ Hacc; iintro Hacc
  iapply (wp_st_full c) $$ Hacc; iintro Hacc
  ihave Hacc := (Entails.of_eq (congrArg (owns (c : Thread nD τ) (accM k) fullShare) (sum2_cut m ρ c k))) $$ Hacc
  iapply (wp_ld_full c) $$ Hacc; iintro Hacc
  iapply (wp_ld_full c) $$ Hb; iintro Hb
  iapply (wp_st_full c) $$ Hb; iintro Hb
  iapply (wp_send m ρ K c k 2 (devN_eq k 2 c) rfl rfl) $$ [Hb Ht HO]
  · isplitr; · iexact HR
    isplitl [Ht]; · iexact Ht
    isplitl [Hb]; · (rw [send_2]; iexact Hb)
    iexact HO
  iintro ⟨Hf, HO⟩
  iapply Hk
  isplitr [HO Hx]
  · isplitl [Hz Hp Hv]
    · isplitl [Hz]; · iexact Hz
      isplitl [Hp]; · iexact Hp
      iapply (Entails.of_eq (recv_1 m ρ c k).symm) $$ Hv
    isplitl [Hf] <;> iassumption
  isplitr; · iexact HR
  isplitl [HO]
  · iexact HO
  · iexact Hx

/-- The third sum, the function, and the kept block of the result. -/
theorem step3_trip (c : Dev nD) (k : Fin 6) :
    Trip c (step3P c k)
      iprop((fly c k 2 ∗ tix c k 3 ∗ some' (F := F) c (keepM k c) ∗ owns (c : Thread nD τ) (accM k) fullShare (cut k c (sum2 m ρ k c))) ∗ shared m ρ K c (6 * 3 + k.val))
      iprop((don m ρ c k 2 ∗ fly c k 3 ∗ owns (c : Thread nD τ) (accM k) fullShare (cut k c (sum2 m ρ k c))) ∗ shared m ρ K c (6 * 3 + (k.val + 1))) := by
  intro kk Q
  unfold step3P waitP shared some'
  simp only [Prog.lift, Prog.bind_op, Prog.bind_ret, bind_assoc]
  iintro ⟨⟨Hf, Ht, ⟨%v2, Hb⟩, Hacc⟩, ⟨#HR, HO, Hx⟩⟩ Hk
  iapply (wp_waits m ρ K c k 2 (6 * 3 + k.val) (after k 2) (credit_src k 2 c) (credit_dst k 2 c)) $$ [Hf HO]
  · isplitr; · iexact HR
    isplitl [Hf] <;> iassumption
  iintro ⟨Hd, HO⟩
  unfold don
  icases Hd with ⟨Hz, Hp, Hv⟩
  ihave Hv := (Entails.of_eq (recv_2 m ρ c k)) $$ Hv
  iapply (wp_ld_full c) $$ Hacc; iintro Hacc
  iapply (wp_ld_full c) $$ Hv; iintro Hv
  iapply (wp_ld_slice c (M := outM)) $$ Hb; iintro Hb
  iapply (wp_st_slice c (M := outM)) $$ Hb; iintro Hb
  ihave Hb := (Entails.of_eq (congrArg (owns (c : Thread nD τ) (keepM k c) fullShare) (res_cut m ρ c k))) $$ Hb
  iapply (wp_send m ρ K c k 3 (devN_eq k 3 c) (sliceM_eq k c) (sliceM_eq k c)) $$ [Hb Ht HO]
  · isplitr; · iexact HR
    isplitl [Ht]; · iexact Ht
    isplitl [Hb]; · (rw [send_3]; iexact Hb)
    iexact HO
  iintro ⟨Hf, HO⟩
  iapply Hk
  isplitr [HO Hx]
  · isplitl [Hz Hp Hv]
    · isplitl [Hz]; · iexact Hz
      isplitl [Hp]; · iexact Hp
      iapply (Entails.of_eq (recv_2 m ρ c k).symm) $$ Hv
    isplitl [Hf] <;> iassumption
  isplitr; · iexact HR
  isplitl [HO]
  · iexact HO
  · iexact Hx

/-- The last exchange is over. -/
theorem step4_trip (c : Dev nD) (k : Fin 6) :
    Trip c (step4P c k) iprop(fly c k 3 ∗ shared m ρ K c 24) iprop(don m ρ c k 3 ∗ shared m ρ K c 24) := by
  intro kk Q
  unfold step4P shared
  simp only [Prog.lift, Prog.bind_op, Prog.bind_ret, bind_assoc]
  iintro ⟨Hf, ⟨#HR, HO, Hx⟩⟩ Hk
  iapply (wp_waits m ρ K c k 3 24 (fun i h1 h2 => absurd h1 (Nat.not_le.mpr h2)) (by rw [sliceM_eq]; exact credit_dst k 3 c) (by rw [sliceM_eq]; exact credit_dst k 3 c)) $$ [Hf HO]
  · isplitr; · iexact HR
    isplitl [Hf] <;> iassumption
  iintro ⟨Hd, HO⟩
  iapply Hk
  isplitl [Hd]; · iexact Hd
  isplitr; · iexact HR
  isplitl [HO]
  · iexact HO
  · iexact Hx

end Cert.CubeProof
-- ==== Proof.Body.lean ====
/-
# `Body`: the whole text of one device

The handshake hands each partner the places where its transfers will land, and takes the partners' places in
exchange; the passes then run one after another.
-/
module

public import proofs.«01_k».proof.Proof.Steps

@[expose] public section

set_option backward.proofsInPublic true
set_option maxRecDepth 16384

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Slot → ℕ)

theorem bigSep_three (Φ : Fin 3 → sProp 𝕄) : bigSep Finset.univ Φ = iprop(Φ 0 ∗ Φ 1 ∗ Φ 2) :=
  bigSep_univ_eq_bigSepL [(0 : Fin 3), 1, 2] (by decide) (by decide) Φ
theorem bigSep_four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

theorem some_intro (c : Dev nD) {s : Shape} {e : EltTy} (M : Memref sig .tc .vmem s e) (V : s.Idx → Elt F e) :
    (owns (c : Thread nD τ) M fullShare V : sProp 𝕄) ⊢ some' (F := F) c M := by
  unfold some'
  iintro H
  iexists V
  iexact H

/-- Over the exchanges of all chains, axis by axis or chain by chain. -/
theorem deal (Ψ : Fin 6 → Fin 4 → sProp 𝕄) :
    (bigSep Finset.univ fun j : Fin 3 => bigSep Finset.univ fun hs : Fin 2 × Fin 4 => Ψ (chainOn j hs) hs.2)
      = bigSep Finset.univ fun k : Fin 6 => bigSep Finset.univ fun s : Fin 4 => Ψ k s := by
  rw [← bigSep_univ_prod (fun p : Fin 3 × (Fin 2 × Fin 4) => Ψ (chainOn p.1 p.2) p.2.2), ← bigSep_univ_prod (fun p : Fin 6 × Fin 4 => Ψ p.1 p.2),
    bigSep_univ_equiv onAxis]
  rfl

/-- Exchange by exchange. -/
theorem spread (Ψ : Fin 6 → Fin 4 → sProp 𝕄) :
    (bigSep Finset.univ fun k : Fin 6 => bigSep Finset.univ fun s : Fin 4 => Ψ k s)
      = iprop((bigSep Finset.univ fun k => Ψ k 0) ∗ (bigSep Finset.univ fun k => Ψ k 1) ∗ (bigSep Finset.univ fun k => Ψ k 2) ∗ (bigSep Finset.univ fun k => Ψ k 3)) := by
  rw [bigSep_congr fun k _ => bigSep_four (Ψ k), bigSep_sep', bigSep_sep', bigSep_sep']

/-- What device `c` gives away in the handshake: the places where its partners' transfers land. -/
theorem give_all (c : Dev nD) :
    (bigSep Finset.univ fun k : Fin 6 => bigSep Finset.univ fun s : Fin 4 => some' (F := F) c (dstM k s (peer k s c)))
      = bigSep Finset.univ fun j : Fin 3 => barPay (F := F) (part j c) j := by
  rw [← deal fun k s => some' (F := F) c (dstM k s (peer k s c))]
  refine bigSep_congr fun j _ => ?_
  unfold barPay
  refine bigSep_congr fun hs _ => ?_
  rw [part_part, show peer (chainOn j hs) hs.2 c = part j c from congrArg (part · c) (axis_chainOn j hs)]

/-- What it gets: the places where its own transfers land. -/
theorem get_all (c : Dev nD) :
    (bigSep Finset.univ fun j : Fin 3 => barPay (F := F) c j)
      = bigSep Finset.univ fun k : Fin 6 => bigSep Finset.univ fun s : Fin 4 => some' (F := F) (peer k s c) (dstM k s c) := by
  rw [← deal fun k s => some' (F := F) (peer k s c) (dstM k s c)]
  refine bigSep_congr fun j _ => ?_
  unfold barPay
  refine bigSep_congr fun hs _ => ?_
  rw [show peer (chainOn j hs) hs.2 c = part j c from congrArg (part · c) (axis_chainOn j hs)]

theorem payload_bar (c : Dev nD) (j : Fin 3) : payload' m ρ c j (some none) = barPay (F := F) c j := rfl

/-- A unit to the partner across axis `j`. -/
theorem signal_trip (c : Dev nD) (j : Fin 3) :
    Trip c (semSignalWord (devB j c) barS 1#32)
      iprop(records m ρ K ∗ (∃ W, owes (c : Thread nD τ) (OB c j.val) W) ∗ dutyTok ER (kcell (part j c, none)) 0 j ∗ barPay (F := F) (part j c) j)
      iprop(∃ W, owes (c : Thread nD τ) (OB c (j.val + 1)) W) := by
  intro kk Q
  simp only [semSignalWord, Prog.lift, Prog.bind_op, Prog.bind_ret, bind_assoc, Prog.pure_eq_ret, wp_deviceId]
  rw [devB_eq]
  iintro ⟨#HR, ⟨%W, HO⟩, Ht, Hp⟩ Hk
  ihave H1 := (records_at m ρ K (part j c, none)) $$ HR
  icases H1 with ⟨#HI, #Hr⟩
  iapply (Rounds.wp_signal 𝒱₀ ER (Rd (F := F) m ρ) (c : Thread nD τ) none (dst := (part j c : Thread nD τ)) (κ := K (part j c, none)) (r := 0) (W := W)
      (d := j) (by rw [duties_cell m ρ (part j c) none]; exact Finset.mem_univ _) ((amount_cell m ρ (part j c) none 0 j).trans (by decide)) () (OB c (j.val + 1)) (OB_succ c j))
    $$ [HO Ht Hp]
  · isplitr; · iexact HI
    isplitl [HO]; · iexact HO
    isplitl [Ht]; · iexact Ht
    isplitl [Hp]
    · iapply (Entails.of_eq ((payload_cell m ρ (part j c) none 0 j).trans (payload_bar m ρ (part j c) j)).symm)
      iexact Hp
    iexact Hr
  iintro HO
  iapply Hk
  iexists W
  iexact HO

/-- The three units taken from one's own barrier. -/
theorem barrier_trip (c : Dev nD) :
    Trip c (semWaitWord barS 3#32)
      iprop(records m ρ K ∗ (∃ W, owes (c : Thread nD τ) (O c 0) W) ∗ cred (tallyAt (kcell (c, none)) () 3) ∗ atPos ER (kcell (c, none)) 0 ∅ 0)
      iprop((∃ W, owes (c : Thread nD τ) (O c 0) W) ∗ semVal (kcell (c, none)) 0 ∗ bigSep Finset.univ fun j => barPay (F := F) c j) := by
  intro kk Q
  simp only [semWaitWord, Prog.lift, Prog.bind_op, Prog.bind_ret, bind_assoc, Prog.pure_eq_ret]
  iintro ⟨#HR, ⟨%W, HO⟩, Hc, Hat⟩ Hk
  ihave H1 := (records_at m ρ K (c, none)) $$ HR
  icases H1 with ⟨#HI, -⟩
  iapply (Rounds.wp_wait_rest_token 𝒱₀ ER (Rd (F := F) m ρ) (c : Thread nD τ) none (κ := K (c, none)) (sm := csem none) (k' := 3)
      (wpE_semWait_eq 𝒱₀ (c : Thread nD τ) none Set.univ) (Set.mem_univ _) () (O := O c 0) (W := W) (R := 0) (m := 0) (T := ∅)
      (by rw [Nat.zero_add, expect_bar m ρ c])) $$ [Hc HO Hat]
  · isplitr; · iexact HI
    isplitl [Hc]; · iexact Hc
    isplitl [HO]; · iexact HO
    isplitr
    · iapply (mayWait_O c (csem none) 0 (fun i _ _ => by rw [slotOf_csem]; exact Nat.lt_of_lt_of_le Nat.one_lt_two (Nat.le_add_left _ _)))
      unfold records
      icases HR with ⟨-, Hl⟩
      iexact Hl
    iexact Hat
  iintro ⟨HO, Hat, -, Hpay⟩
  ihave Hpay := (Entails.of_eq (rest_bar m ρ c)) $$ Hpay
  imod (Rounds.cell_close ER (Rd (F := F) m ρ) (Set.mem_univ (K (c, none))) (fun h => h) (R := 0 + 1) (duties_later m ρ (kcell (c, none)))) $$ [Hat] with Hz
  · isplitr; · iexact HI
    iexact Hat
  iapply Hk
  isplitl [HO]; · (iexists _; iexact HO)
  isplitl [Hz] <;> iassumption

/-! ## The passes -/

theorem pass0 (c : Dev nD) :
    Trip c (pass (prepP c)) iprop((bigSep Finset.univ fun k => some' (F := F) c (bufM k 0)) ∗ owns (c : Thread nD τ) xM fullShare (X m ρ c))
      iprop((bigSep Finset.univ fun k => sendPay m ρ c k 0) ∗ owns (c : Thread nD τ) xM fullShare (X m ρ c)) :=
  Trip.pass (R := fun _ => owns (c : Thread nD τ) xM fullShare (X m ρ c)) (prep_trip m ρ c)

theorem pass1 (c : Dev nD) :
    Trip c (pass (sendP c 0 0 1)) iprop((bigSep Finset.univ fun k => iprop(sendPay m ρ c k 0 ∗ tix c k 0)) ∗ shared m ρ K c 0)
      iprop((bigSep Finset.univ fun k => fly c k 0) ∗ shared m ρ K c 6) :=
  Trip.pass (R := fun i => shared m ρ K c (6 * 0 + i)) (send_trip m ρ K c)

theorem pass2 (c : Dev nD) :
    Trip c (pass (step1P c))
      iprop((bigSep Finset.univ fun k => iprop(fly c k 0 ∗ tix c k 1 ∗ some' (F := F) c (bufM k 2) ∗ some' (F := F) c (accM k))) ∗ shared m ρ K c 6)
      iprop((bigSep Finset.univ fun k => iprop(don m ρ c k 0 ∗ fly c k 1 ∗ owns (c : Thread nD τ) (accM k) fullShare (cut k c (sum1 m ρ k c)))) ∗ shared m ρ K c 12) :=
  Trip.pass (R := fun i => shared m ρ K c (6 * 1 + i)) (step1_trip m ρ K c)

theorem pass3 (c : Dev nD) :
    Trip c (pass (step2P c))
      iprop((bigSep Finset.univ fun k => iprop(fly c k 1 ∗ tix c k 2 ∗ some' (F := F) c (bufM k 4) ∗ owns (c : Thread nD τ) (accM k) fullShare (cut k c (sum1 m ρ k c)))) ∗ shared m ρ K c 12)
      iprop((bigSep Finset.univ fun k => iprop(don m ρ c k 1 ∗ fly c k 2 ∗ owns (c : Thread nD τ) (accM k) fullShare (cut k c (sum2 m ρ k c)))) ∗ shared m ρ K c 18) :=
  Trip.pass (R := fun i => shared m ρ K c (6 * 2 + i)) (step2_trip m ρ K c)

theorem pass4 (c : Dev nD) :
    Trip c (pass (step3P c))
      iprop((bigSep Finset.univ fun k => iprop(fly c k 2 ∗ tix c k 3 ∗ some' (F := F) c (keepM k c) ∗ owns (c : Thread nD τ) (accM k) fullShare (cut k c (sum2 m ρ k c)))) ∗ shared m ρ K c 18)
      iprop((bigSep Finset.univ fun k => iprop(don m ρ c k 2 ∗ fly c k 3 ∗ owns (c : Thread nD τ) (accM k) fullShare (cut k c (sum2 m ρ k c)))) ∗ shared m ρ K c 24) :=
  Trip.pass (R := fun i => shared m ρ K c (6 * 3 + i)) (step3_trip m ρ K c)

theorem pass5 (c : Dev nD) :
    Trip c (pass (step4P c)) iprop((bigSep Finset.univ fun k => fly c k 3) ∗ shared m ρ K c 24)
      iprop((bigSep Finset.univ fun k => don m ρ c k 3) ∗ shared m ρ K c 24) :=
  Trip.pass (R := fun _ => shared m ρ K c 24) (step4_trip m ρ K c)

/-! ## The text -/

/-- The ghost state a device starts with, but for the records. -/
def tokens (c : Dev nD) : sProp 𝕄 :=
  iprop(atPos ER (kcell (c, none)) 0 ∅ 0 ∗ cred (tallyAt (kcell (c, none)) () 3)
    ∗ (bigSep Finset.univ fun j : Fin 3 => dutyTok ER (kcell (part j c, none)) 0 j)
    ∗ (bigSep Finset.univ fun k : Fin 6 => bigSep Finset.univ fun s : Fin 4 => tix0 (F := F) c k s))

/-- The buffers a device starts with: where transfers land, what they are sent from, the accumulators. -/
def buffers (c : Dev nD) : sProp 𝕄 :=
  iprop((bigSep Finset.univ fun k : Fin 6 => bigSep Finset.univ fun s : Fin 4 => some' (F := F) c (dstM k s (peer k s c)))
    ∗ (bigSep Finset.univ fun k : Fin 6 => bigSep Finset.univ fun s : Fin 4 => some' (F := F) c (srcM k s c))
    ∗ (bigSep Finset.univ fun k : Fin 6 => some' (F := F) c (accM k)))

/-- What it ends with: every counter at zero, all that was sent and received, the accumulators. -/
def ending (c : Dev nD) : sProp 𝕄 :=
  iprop(semVal (kcell (c, none)) 0 ∗ (bigSep Finset.univ fun k : Fin 6 => bigSep Finset.univ fun s : Fin 4 => don m ρ c k s)
    ∗ (bigSep Finset.univ fun k : Fin 6 => some' (F := F) c (accM k)))

/-- The text of device `c`, from start to end. -/
theorem text_run (c : Dev nD) (Q : PUnit → sProp 𝕄) :
    iprop(records m ρ K ∗ tokens c ∗ buffers (F := F) c ∗ (∃ W, owes (c : Thread nD τ) (OB c 0) W) ∗ owns (c : Thread nD τ) xM fullShare (X m ρ c))
      ⊢ iprop(((ending m ρ c ∗ (∃ W, owes (c : Thread nD τ) 0 W) ∗ owns (c : Thread nD τ) xM fullShare (X m ρ c)) -∗ Q ⟨⟩)
        -∗ WP c bodyP Q) := by
  unfold bodyP greetP tokens buffers
  rw [give_all, bigSep_three (fun j => barPay (F := F) (part j c) j), bigSep_three (fun j => dutyTok ER (kcell (part j c, none)) 0 j),
    spread (fun k s => tix0 (F := F) c k s), spread (fun k s => some' (F := F) c (srcM k s c))]
  simp only [Prog.lift, Prog.bind_op, Prog.bind_ret, bind_assoc, wp_deviceId]
  iintro ⟨#HR, ⟨Hat, Hc, ⟨Ht0, Ht1, Ht2⟩, ⟨HT0, HT1, HT2, HT3⟩⟩, ⟨⟨Hp0, Hp1, Hp2⟩, ⟨HB0, HB2, HB4, HB6⟩, HA⟩, HO, Hx⟩ Hk
  iapply (signal_trip m ρ K c 0 _ Q) $$ [HO Ht0 Hp0]
  · isplitr; · iexact HR
    isplitl [HO]; · iexact HO
    isplitl [Ht0] <;> iassumption
  iintro HO
  iapply (signal_trip m ρ K c 1 _ Q) $$ [HO Ht1 Hp1]
  · isplitr; · iexact HR
    isplitl [HO]; · iexact HO
    isplitl [Ht1] <;> iassumption
  iintro HO
  iapply (signal_trip m ρ K c 2 _ Q) $$ [HO Ht2 Hp2]
  · isplitr; · iexact HR
    isplitl [HO]; · iexact HO
    isplitl [Ht2] <;> iassumption
  iintro HO
  iapply (pass0 m ρ c _ Q) $$ [HB0 Hx]
  · isplitl [HB0] <;> iassumption
  iintro ⟨HB0, Hx⟩
  iapply (barrier_trip m ρ K c _ Q) $$ [HO Hc Hat]
  · isplitr; · iexact HR
    isplitl [HO]
    · icases HO with ⟨%W, HO⟩
      iexists W
      iapply (Entails.of_eq (congrArg (fun o => owes (c : Thread nD τ) o W) (OB_three c)))
      iexact HO
    isplitl [Hc] <;> iassumption
  iintro ⟨HO, Hz, Hgot⟩
  ihave Hgot := (Entails.of_eq ((get_all c).trans (spread fun k s => some' (F := F) (peer k s c) (dstM k s c)))) $$ Hgot
  icases Hgot with ⟨HG0, HG1, HG2, HG3⟩
  iapply (pass1 m ρ K c _ Q) $$ [HB0 HT0 HG0 HO Hx]
  · isplitl [HB0 HT0 HG0]
    · unfold tix; simp only [bigSep_sep']
      isplitl [HB0]; · iexact HB0
      isplitl [HT0] <;> iassumption
    · unfold shared
      isplitr; · iexact HR
      isplitl [HO] <;> iassumption
  iintro ⟨Hf, Hs⟩
  iapply (pass2 m ρ K c _ Q) $$ [Hf HT1 HG1 HB2 HA Hs]
  · isplitr [Hs]
    · unfold tix; simp only [bigSep_sep']
      isplitl [Hf]; · iexact Hf
      isplitl [HT1 HG1]
      · isplitl [HT1] <;> iassumption
      isplitl [HB2] <;> iassumption
    · iexact Hs
  iintro ⟨H, Hs⟩
  ihave H := (Entails.of_eq ((bigSep_sep' _ _ _).trans (congrArg _ (bigSep_sep' _ _ _)))) $$ H
  icases H with ⟨HD0, Hf, HA⟩
  iapply (pass3 m ρ K c _ Q) $$ [Hf HT2 HG2 HB4 HA Hs]
  · isplitr [Hs]
    · unfold tix; simp only [bigSep_sep']
      isplitl [Hf]; · iexact Hf
      isplitl [HT2 HG2]
      · isplitl [HT2] <;> iassumption
      isplitl [HB4] <;> iassumption
    · iexact Hs
  iintro ⟨H, Hs⟩
  ihave H := (Entails.of_eq ((bigSep_sep' _ _ _).trans (congrArg _ (bigSep_sep' _ _ _)))) $$ H
  icases H with ⟨HD1, Hf, HA⟩
  iapply (pass4 m ρ K c _ Q) $$ [Hf HT3 HG3 HB6 HA Hs]
  · isplitr [Hs]
    · unfold tix; simp only [bigSep_sep']
      isplitl [Hf]; · iexact Hf
      isplitl [HT3 HG3]
      · isplitl [HT3] <;> iassumption
      isplitl [HB6] <;> iassumption
    · iexact Hs
  iintro ⟨H, Hs⟩
  ihave H := (Entails.of_eq ((bigSep_sep' _ _ _).trans (congrArg _ (bigSep_sep' _ _ _)))) $$ H
  icases H with ⟨HD2, Hf, HA⟩
  have e5 := pass5 m ρ K c Prog.ret Q
  rw [show (pass (step4P (F := F) c) >>= Prog.ret) = pass (step4P c) from bind_pure _] at e5
  iapply e5 $$ [Hf Hs]
  · isplitl [Hf] <;> iassumption
  iintro ⟨HD3, Hs⟩
  unfold WP; rw [wp_ret]
  imodintro
  iapply Hk
  unfold ending shared
  icases Hs with ⟨-, HO, Hx⟩
  isplitr [HO Hx]
  · isplitl [Hz]; · iexact Hz
    isplitr [HA]
    · iapply (Entails.of_eq (spread fun k s => don m ρ c k s).symm)
      isplitl [HD0]; · iexact HD0
      isplitl [HD1]; · iexact HD1
      isplitl [HD2] <;> iassumption
    · have hA : (bigSep Finset.univ fun k : Fin 6 => owns (c : Thread nD τ) (accM k) fullShare (cut k c (sum2 m ρ k c)))
          ⊢ (bigSep Finset.univ fun k : Fin 6 => some' (F := F) c (accM k) : sProp 𝕄) := bigSep_mono fun k _ => some_intro c (accM k) _
      iapply hA
      iexact HA
  isplitl [HO]
  · icases HO with ⟨%W, HO⟩
    iexists W
    iapply (Entails.of_eq (congrArg (fun o => owes (c : Thread nD τ) o W) (O_end c)))
    iexact HO
  · iexact Hx

end Cert.CubeProof
-- ==== Proof.Regions.lean ====
/-
# `Regions`: the result's blocks, and the scratch buffers

The twelve blocks that a device and its last partners keep, two per chain, make up the result. An index lies in
the block of its chain (read off the index) on the device's own side or on the partner's. So the result may be
dealt out as twelve blocks, and put together again from twelve blocks whatever array each was cut out of.

The scratch buffers of the launch are the exchange buffers and the accumulators, by chain.
-/
module

public import proofs.«01_k».proof.Proof.Body

@[expose] public section

set_option backward.proofsInPublic true
set_option maxRecDepth 16384

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Where the blocks lie -/

/-- The first row of a chain, on every device. -/
def base (k : Fin 6) : ℕ := 384 * (k.val % 3)

/-- The first row of the block that device `c` keeps in chain `k`. -/
def low (k : Fin 6) (c : Dev nD) : ℕ := keepOff k c 0

theorem low_half : ∀ (k : Fin 6) (c : Dev nD),
    (low k c = base k ∧ low k (peer k 3 c) = base k + hgt k) ∨ (low k c = base k + hgt k ∧ low k (peer k 3 c) = base k) := by
  decide +kernel
theorem col_half : ∀ (k : Fin 6) (c : Dev nD), keepOff k c 1 = 256 * (k.val / 3) := by decide +kernel
theorem hgt_third : ∀ k : Fin 6, hgt k = if k.val % 3 = 2 then 128 else 192 := by decide

/-- The chain an index of the result lies in. -/
def chain (i : S1024x512.Idx) : Fin 6 :=
  ⟨3 * ((i 1).val / 256) + (if (i 0).val < 384 then 0 else if (i 0).val < 768 then 1 else 2), by
    have h1 : (i 1).val < 512 := (i 1).isLt
    split_ifs <;> omega⟩

/-- Whether the row of an index is one that device `c` keeps in the index's chain. -/
def own (c : Dev nD) (i : S1024x512.Idx) : Bool :=
  decide (low (chain i) c ≤ (i 0).val ∧ (i 0).val < low (chain i) c + hgt (chain i))

/-- The device that keeps a block: `c`, or its partner of the last exchange. -/
def keeper (c : Dev nD) (p : Fin 6 × Bool) : Dev nD := if p.2 then c else peer p.1 3 c

theorem mem_keep (k : Fin 6) (d : Dev nD) (i : S1024x512.Idx) : i ∈ (keepM k d).view.set ↔
    (low k d ≤ (i 0).val ∧ (i 0).val < low k d + hgt k) ∧ 256 * (k.val / 3) ≤ (i 1).val ∧ (i 1).val < 256 * (k.val / 3) + 256 := by
  have h : i ∈ (keepM k d).view.set ↔ i ∈ (Rect.unit (s := S1024x512) (keepOff k d) (Sh k).size (keepOff_inb k d)).set := by
    rw [← View.set_slice_whole cc0_stg1_0 (Rect.unit (s := S1024x512) (keepOff k d) (Sh k).size (keepOff_inb k d))]
  rw [h, Rect.mem_set_unit, Fin.forall_fin_two, ← col_half k d]
  exact Iff.rfl

/-- An index lies in the block of its own chain and side, and in no other. -/
theorem mem_keep_iff (c : Dev nD) (p : Fin 6 × Bool) (i : S1024x512.Idx) :
    i ∈ (keepM p.1 (keeper c p)).view.set ↔ (chain i, own c i) = p := by
  obtain ⟨k, b⟩ := p
  have h0 : (i 0).val < 1024 := (i 0).isLt
  have h1 : (i 1).val < 512 := (i 1).isLt
  have hh := hgt_third k
  have hk : k.val < 6 := k.isLt
  have key : chain i = k ↔ (base k ≤ (i 0).val ∧ (i 0).val < base k + 2 * hgt k) ∧ 256 * (k.val / 3) ≤ (i 1).val ∧ (i 1).val < 256 * (k.val / 3) + 256 := by
    rw [Fin.ext_iff]
    unfold chain base
    show (3 * ((i 1).val / 256) + (if (i 0).val < 384 then 0 else if (i 0).val < 768 then 1 else 2)) = k.val ↔ _
    split_ifs at hh ⊢ <;> omega
  rw [mem_keep]
  constructor
  · intro h
    have hc : chain i = k := by
      rw [key]
      rcases low_half k c with ⟨e1, e2⟩ | ⟨e1, e2⟩ <;> cases b <;>
        (simp only [keeper, Bool.false_eq_true, if_true, if_false] at h; omega)
    refine Prod.ext hc ?_
    show own c i = b
    unfold own
    rw [hc]
    cases b
    · simp only [keeper, Bool.false_eq_true, if_false] at h
      rw [decide_eq_false_iff_not]
      rcases low_half k c with ⟨e1, e2⟩ | ⟨e1, e2⟩ <;> omega
    · exact decide_eq_true h.1
  · intro h
    have hc : chain i = k := congrArg Prod.fst h
    have ho : own c i = b := congrArg Prod.snd h
    have hr := key.mp hc
    refine ⟨?_, hr.2⟩
    unfold own at ho
    rw [hc] at ho
    cases b
    · simp only [keeper, Bool.false_eq_true, if_false]
      rw [decide_eq_false_iff_not] at ho
      rcases low_half k c with ⟨e1, e2⟩ | ⟨e1, e2⟩ <;> omega
    · exact of_decide_eq_true ho

/-- The blocks are apart and cover the result, so owning it is owning each. -/
theorem split_out (c : Dev nD) (f : Buf (Elt F) ((c : Thread nD τ).loc cc0_stg1_0)) :
    (((c : Thread nD τ).loc cc0_stg1_0 ↦{fullShare} f) : sProp 𝕄)
      = bigSep Finset.univ fun p : Fin 6 × Bool => ((c : Thread nD τ).loc cc0_stg1_0) ↦[(keepM p.1 (keeper c p)).view.set]{fullShare} f := by
  have hU : (Finset.univ : Finset (Idx ((c : Thread nD τ).loc cc0_stg1_0)))
      = (Finset.univ : Finset (Fin 6 × Bool)).biUnion fun p => (keepM p.1 (keeper c p)).view.set := by
    refine (Finset.eq_univ_of_forall fun i => Finset.mem_biUnion.mpr ⟨(chain i, own c i), Finset.mem_univ _, ?_⟩).symm
    exact (mem_keep_iff c _ i).mpr rfl
  rw [hU]
  refine pointsTo_biUnion _ _ fun p _ q _ hpq => Finset.disjoint_left.mpr fun i hi hj => hpq ?_
  exact ((mem_keep_iff c p i).mp hi).symm.trans ((mem_keep_iff c q i).mp hj)

/-- A `∗` over chains and sides, side by side. -/
theorem bigSep_sides (Φ : Fin 6 × Bool → sProp 𝕄) :
    bigSep Finset.univ Φ = iprop((bigSep Finset.univ fun k : Fin 6 => Φ (k, true)) ∗ bigSep Finset.univ fun k : Fin 6 => Φ (k, false)) := by
  rw [bigSep_univ_prod, ← bigSep_sep']
  exact bigSep_congr fun k _ => bigSep_univ_eq_bigSepL [true, false] (by decide) (by decide) _

theorem piece_some (c d : Dev nD) (k : Fin 6) (f : Buf (Elt F) ((c : Thread nD τ).loc cc0_stg1_0)) :
    (((c : Thread nD τ).loc cc0_stg1_0 ↦[(keepM k d).view.set]{fullShare} f) : sProp 𝕄) ⊢ some' c (keepM k d) := by
  unfold some' owns
  iintro H
  iexists (keepM k d).view.read (Elt F) f
  iexists f
  isplitr
  · ipureintro; rfl
  · iexact H

/-- The result's buffer dealt out: what the device keeps, and what its partners' last transfers fill. -/
theorem out_deal (c : Dev nD) (f : Buf (Elt F) ((c : Thread nD τ).loc cc0_stg1_0)) :
    (((c : Thread nD τ).loc cc0_stg1_0 ↦{fullShare} f) : sProp 𝕄)
      ⊢ iprop((bigSep Finset.univ fun k : Fin 6 => some' c (keepM k c)) ∗ bigSep Finset.univ fun k : Fin 6 => some' c (keepM k (peer k 3 c))) := by
  rw [split_out, bigSep_sides]
  exact BI.sep_mono (bigSep_mono fun k _ => piece_some c _ k f) (bigSep_mono fun k _ => piece_some c _ k f)

/-- The array whose blocks are cut out of the arrays `A`, each block of the one its keeper made. -/
def joined {α : Type} (A : Fin 6 → Dev nD → S1024x512.Idx → α) (c : Dev nD) : S1024x512.Idx → α :=
  fun i => A (chain i) (keeper c (chain i, own c i)) i

theorem piece_join (c : Dev nD) (p : Fin 6 × Bool) (A : Fin 6 → Dev nD → S1024x512.Idx → Elt F .bf16) :
    (owns (c : Thread nD τ) (keepM p.1 (keeper c p)) fullShare (cut p.1 (keeper c p) (A p.1 (keeper c p))) : sProp 𝕄)
      ⊢ ((c : Thread nD τ).loc cc0_stg1_0) ↦[(keepM p.1 (keeper c p)).view.set]{fullShare} (joined A c) := by
  unfold owns
  iintro ⟨%f, %hf, H⟩
  have e : ∀ i ∈ (keepM p.1 (keeper c p)).view.set, f i = joined A c i := fun i hi => by
    have ht := (mem_keep_iff c p i).mp hi
    obtain ⟨x, -, rfl⟩ := Finset.mem_map.mp hi
    have h1 : f ((keepM p.1 (keeper c p)).view.emb x) = A p.1 (keeper c p) ((keepM p.1 (keeper c p)).view.emb x) := congrFun hf x
    rw [h1]
    show _ = A _ _ _
    rw [ht, show chain ((keepM p.1 (keeper c p)).view.emb x) = p.1 from congrArg Prod.fst ht]
  have e2 : (((c : Thread nD τ).loc cc0_stg1_0 ↦[(keepM p.1 (keeper c p)).view.set]{fullShare} f) : sProp 𝕄)
      = ((c : Thread nD τ).loc cc0_stg1_0) ↦[(keepM p.1 (keeper c p)).view.set]{fullShare} (joined A c) := pointsTo_congr e
  iapply (Entails.of_eq e2) $$ H

/-- The result put together again from its blocks. -/
theorem out_join (c : Dev nD) (A : Fin 6 → Dev nD → S1024x512.Idx → Elt F .bf16) :
    iprop((bigSep Finset.univ fun k : Fin 6 => owns (c : Thread nD τ) (keepM k c) fullShare (cut k c (A k c)))
        ∗ bigSep Finset.univ fun k : Fin 6 => owns (c : Thread nD τ) (keepM k (peer k 3 c)) fullShare (cut k (peer k 3 c) (A k (peer k 3 c))))
      ⊢ (((c : Thread nD τ).loc cc0_stg1_0 ↦{fullShare} (joined A c)) : sProp 𝕄) := by
  rw [split_out, bigSep_sides]
  exact BI.sep_mono (bigSep_mono fun k _ => piece_join c (k, true) A) (bigSep_mono fun k _ => piece_join c (k, false) A)

/-! ## The scratch buffers -/

/-- The buffer of a scratch memref: an exchange buffer of a chain, or (the seventh) its accumulator. -/
def bufR (p : Fin 6 × Fin 6) : Ref sig .tc := (bufM p.1 p.2).view.ref
def accR (k : Fin 6) : Ref sig .tc := (accM k).view.ref

theorem bufR_inj : Function.Injective bufR := by
  have h : ∀ p q : Fin 6 × Fin 6, bufR p = bufR q → p = q := by decide +kernel
  exact fun p q => h p q
theorem accR_inj : Function.Injective accR := by
  have h : ∀ p q : Fin 6, accR p = accR q → p = q := by decide +kernel
  exact fun p q => h p q
theorem buf_acc : Disjoint (Finset.univ.map ⟨bufR, bufR_inj⟩) (Finset.univ.map ⟨accR, accR_inj⟩) := by decide +kernel
theorem scratch_set : ((Finset.univ : Finset (Ref sig .tc)).filter (·.isScoped)) \ Finset.univ.image (Pipeline.stageRef cfg0.spec)
    = Finset.univ.map ⟨bufR, bufR_inj⟩ ∪ Finset.univ.map ⟨accR, accR_inj⟩ := by decide +kernel

theorem any_whole (c : Dev nD) (b : Ref sig .tc) :
    iprop(∃ f : Buf (Elt F) ((c : Thread nD τ).loc b), ((c : Thread nD τ).loc b) ↦{fullShare} f) = (iprop(∃ v, owns (c : Thread nD τ) (Memref.whole b) fullShare v) : sProp 𝕄) := by
  simp only [owns_whole]

theorem any_buf (c : Dev nD) : ∀ p : Fin 6 × Fin 6,
    iprop(∃ f : Buf (Elt F) ((c : Thread nD τ).loc (bufR p)), ((c : Thread nD τ).loc (bufR p)) ↦{fullShare} f) = (some' c (bufM p.1 p.2) : sProp 𝕄)
  | (0, 0) | (0, 1) | (0, 2) | (0, 3) | (0, 4) | (0, 5) | (1, 0) | (1, 1) | (1, 2) | (1, 3) | (1, 4) | (1, 5)
  | (2, 0) | (2, 1) | (2, 2) | (2, 3) | (2, 4) | (2, 5) | (3, 0) | (3, 1) | (3, 2) | (3, 3) | (3, 4) | (3, 5)
  | (4, 0) | (4, 1) | (4, 2) | (4, 3) | (4, 4) | (4, 5) | (5, 0) | (5, 1) | (5, 2) | (5, 3) | (5, 4) | (5, 5) => any_whole c _

theorem any_acc (c : Dev nD) : ∀ k : Fin 6,
    iprop(∃ f : Buf (Elt F) ((c : Thread nD τ).loc (accR k)), ((c : Thread nD τ).loc (accR k)) ↦{fullShare} f) = (some' c (accM k) : sProp 𝕄)
  | 0 | 1 | 2 | 3 | 4 | 5 => any_whole c _

/-- One of the six exchange buffers of every chain. -/
def bufs (c : Dev nD) (j : Fin 6) : sProp 𝕄 := bigSep Finset.univ fun k : Fin 6 => some' c (bufM k j)
def accs (c : Dev nD) : sProp 𝕄 := bigSep Finset.univ fun k : Fin 6 => some' c (accM k)

/-- The launch's scratch buffers: the six exchange buffers of every chain and its accumulator. -/
theorem scratch_eq (c : Dev nD) : (Pipeline.scopedRest cfg0.spec c : sProp 𝕄)
    = iprop((bufs c 0 ∗ bufs c 1 ∗ bufs c 2 ∗ bufs c 3 ∗ bufs c 4 ∗ bufs c 5) ∗ accs c) := by
  unfold Pipeline.scopedRest
  rw [scratch_set, bigSep_union buf_acc, bigSep_map, bigSep_map]
  congr 1
  · rw [← bigSep_six (fun j => bufs c j)]
    unfold bufs
    rw [bigSep_univ_comm, ← bigSep_univ_prod (fun p : Fin 6 × Fin 6 => (some' c (bufM p.1 p.2) : sProp 𝕄))]
    exact bigSep_congr fun p _ => any_buf c p
  · exact bigSep_congr fun k _ => any_acc c k

end Cert.CubeProof

end
-- ==== Proof.Ghost.lean ====
/-
# `Ghost`: what the launch hands each device

The launch makes every device's cells, positions and tokens; the tokens of a device's own cells are dealt to the
partners that pay them. The credit of a device's cells is what all devices together owe them.
-/
module

public import proofs.«01_k».proof.Proof.Regions

@[expose] public section

set_option backward.proofsInPublic true
set_option maxRecDepth 16384

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Indexing -/

/-- A transfer's semaphore: the sender's or the receiver's, the chain, the exchange. -/
abbrev Xfer : Type := Bool × Fin 6 × Fin 4

theorem bigSep_slot (Φ : Slot → sProp 𝕄) : bigSep Finset.univ Φ = iprop(Φ none ∗ bigSep Finset.univ fun x : Xfer => Φ (some x)) := by
  rw [bigSep_univ_equiv ((Equiv.sumComm PUnit.{1} Xfer).trans (Equiv.optionEquivSumPUnit Xfer).symm) Φ, bigSep_univ_sum,
    Finset.univ_unique (α := PUnit.{1}), bigSep_singleton]
  rfl

theorem bigSep_xfer (Φ : Xfer → sProp 𝕄) : bigSep Finset.univ Φ
    = iprop((bigSep Finset.univ fun k : Fin 6 => bigSep Finset.univ fun s : Fin 4 => Φ (false, k, s))
        ∗ bigSep Finset.univ fun k : Fin 6 => bigSep Finset.univ fun s : Fin 4 => Φ (true, k, s)) := by
  rw [bigSep_univ_prod, bigSep_univ_eq_bigSepL [false, true] (by decide) (by decide), bigSepL_cons_cons, bigSepL_singleton,
    bigSep_univ_prod, bigSep_univ_prod]
  rfl

/-- Crossing an axis, as a rearrangement of the devices. -/
def cross (j : Fin 3) : Dev nD ≃ Dev nD := ⟨part j, part j, part_part j, part_part j⟩

/-- What every device has of every index may be dealt across the index's own rearrangement. -/
theorem bigSep_cross {I : Type} [Fintype I] (e : I → Dev nD ≃ Dev nD) (Φ : Dev nD → I → sProp 𝕄) :
    (bigSep Finset.univ fun c => bigSep Finset.univ fun i => Φ c i) = bigSep Finset.univ fun c => bigSep Finset.univ fun i => Φ (e i c) i := by
  rw [bigSep_univ_comm, bigSep_univ_comm (fun c i => Φ (e i c) i)]
  exact bigSep_congr fun i _ => bigSep_univ_equiv (e i) fun c => Φ c i

/-! ## The cells and the tokens -/

def cells₀ : Finset (GSem nD τ sig) := Finset.univ.map ⟨kcell, kcell_inj⟩

/-- The duties of a device's own cells: three of its barrier's, one of each transfer's. -/
def tokOf (cx : Dev nD × (Fin 3 ⊕ Xfer)) : GSem nD τ sig × ℕ × Fin 3 :=
  (kcell (cx.1, cx.2.elim (fun _ => none) some), 0, cx.2.elim id fun _ => 0)

theorem tokOf_inj : Function.Injective tokOf := by
  rintro ⟨c, x⟩ ⟨d, y⟩ h
  have h1 := kcell_inj (congrArg Prod.fst h)
  have hc : c = d := congrArg Prod.fst h1
  have ho : (x.elim (fun _ => none) some : Slot) = y.elim (fun _ => none) some := congrArg Prod.snd h1
  have hd : (x.elim id fun _ => 0 : Fin 3) = y.elim id fun _ => 0 := congrArg (fun z : GSem nD τ sig × ℕ × Fin 3 => z.2.2) h
  subst hc
  rcases x with j | x <;> rcases y with i | y
  · exact congrArg (fun j => (c, Sum.inl j)) hd
  · exact absurd ho (fun h => by cases h)
  · exact absurd ho (fun h => by cases h)
  · exact congrArg (fun x => (c, Sum.inr x)) (Option.some.inj ho)

def toks₀ : Finset (GSem nD τ sig × ℕ × Fin 3) := Finset.univ.map ⟨tokOf, tokOf_inj⟩

def u₀ : UU :=
  (initOf (Pipeline.cells cfgs cellOf_inj) (Pipeline.launchToks cfgs cellOf_inj), initOf cells₀ toks₀)

/-- The tokens of device `c`'s own cells. -/
def toks (c : Dev nD) : sProp 𝕄 :=
  iprop((bigSep Finset.univ fun j : Fin 3 => dutyTok ER (kcell (c, none)) 0 j)
    ∗ bigSep Finset.univ fun x : Xfer => dutyTok ER (kcell (c, some x)) 0 0)

/-- The positions of device `c`'s own cells, and that they are at round 0. -/
def poss (c : Dev nD) : sProp 𝕄 :=
  bigSep Finset.univ fun o : Slot => iprop(atPos ER (kcell (c, o)) 0 ∅ 0 ∗ reached ER (kcell (c, o)) 0)

/-- What the launch makes for device `c`. -/
def G (c : Dev nD) : sProp 𝕄 :=
  iprop((bigSep Finset.univ fun o : Slot => roundState ER (Rd (F := F) m ρ) (kcell (c, o)) 0) ∗ poss c ∗ toks c)

theorem fund : BI.own (ER (initOf cells₀ toks₀)) ⊢ (|==> bigSep Finset.univ (G (F := F) m ρ) : sProp 𝕄) := by
  have hX (Φ : GSem nD τ sig → sProp 𝕄) : bigSep cells₀ Φ = bigSep Finset.univ fun c : Dev nD => bigSep Finset.univ fun o : Slot => Φ (kcell (c, o)) := by
    unfold cells₀; rw [bigSep_map, bigSep_univ_prod]; rfl
  have hT : bigSep toks₀ (fun x => (dutyTok ER x.1 x.2.1 x.2.2 : sProp 𝕄)) = bigSep Finset.univ fun c : Dev nD => toks c := by
    unfold toks₀; rw [bigSep_map, bigSep_univ_prod]
    exact bigSep_congr fun c _ => by unfold toks; rw [bigSep_univ_sum]; rfl
  iintro HX
  imod (Rounds.fund ER (Rd (F := F) m ρ) cells₀ toks₀) $$ HX with ⟨Hst, Hr, Hat, Htok⟩
  imodintro
  ihave Hst := (Entails.of_eq (hX fun g => roundState ER (Rd (F := F) m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G poss; simp only [bigSep_sep']
  isplitl [Hst]; · iexact Hst
  isplitl [Hat Hr]
  · isplitl [Hat] <;> iassumption
  · iexact Htok

/-! ## The invariants -/

/-- The kernel's own semaphores, as the launch indexes them: all but the barrier. -/
abbrev osem (x : Xfer) : SemLoc sig := csem (some x)

theorem ownSemFacts : Pipeline.OwnSemFacts cfg0.spec osem where
  isScoped := by decide +kernel
  inj := csem_inj.comp (Option.some_injective _)
  disj := by decide +kernel

theorem unscoped_eq (c : Dev nD) : (unscopedSems0 c : sProp 𝕄) = semVal (kcell (c, none)) 0 := by
  unfold unscopedSems0; rw [bigSep_eq_bigSepL_of_eq [SemLoc.reg barS] (by decide +kernel) (by decide)]; rfl

/-- The counters of the protocol's semaphores on one device, as the launch gives and takes them. -/
theorem sems_eq (c : Dev nD) :
    (bigSep Finset.univ fun o : Slot => (semVal (kcell (c, o)) 0 : sProp 𝕄))
      = iprop(unscopedSems0 c ∗ Pipeline.ownSems0 (Ix := Unit) (Name := ℕ) (U := UU) (Lvl := ℕ) (Val := Elt F) (τ := τ) osem c) := by
  rw [bigSep_slot, unscoped_eq]; rfl

theorem core_alloc (c : Dev nD) :
    iprop(Pipeline.ownSems0 (Ix := Unit) (Name := ℕ) (U := UU) (Lvl := ℕ) (Val := Elt F) (τ := τ) osem c ∗ unscopedSems0 c ∗ G (F := F) m ρ c)
      ⊢ |={Set.univ}=> iprop((bigSep Finset.univ fun o : Slot => iprop(∃ κ : ℕ, cellInv ER (Rd (F := F) m ρ) κ (kcell (c, o)))) ∗ poss c ∗ toks c) := by
  have halloc : iprop((bigSep Finset.univ fun o : Slot => semVal (kcell (c, o)) 0) ∗ bigSep Finset.univ fun o : Slot => roundState ER (Rd (F := F) m ρ) (kcell (c, o)) 0)
      ⊢ (|={Set.univ}=> bigSep Finset.univ fun o : Slot => iprop(∃ κ : ℕ, cellInv ER (Rd (F := F) m ρ) κ (kcell (c, o))) : sProp 𝕄) := by
    rw [← bigSep_sep']
    exact (bigSep_mono fun o _ => (Rounds.body_intro ER (Rd (F := F) m ρ) (kcell (c, o))).trans inv_alloc).trans (bigSep_fupd _ _)
  unfold G
  iintro ⟨Hos, Hus, Hst, Hat, Htok⟩
  ihave Hv := (Entails.of_eq (sems_eq (F := F) c).symm) $$ [Hos Hus]
  · isplitl [Hus] <;> iassumption
  imod halloc $$ [Hv Hst] with Hinv
  · isplitl [Hv] <;> iassumption
  imodintro
  isplitl [Hinv]; · iexact Hinv
  isplitl [Hat] <;> iassumption

/-- What device `c` holds of the protocol but for credit: its positions, and the tokens of the duties it pays. -/
def lin (c : Dev nD) : sProp 𝕄 :=
  iprop((bigSep Finset.univ fun o : Slot => atPos ER (kcell (c, o)) 0 ∅ 0)
    ∗ (bigSep Finset.univ fun j : Fin 3 => dutyTok ER (kcell (part j c, none)) 0 j)
    ∗ bigSep Finset.univ fun x : Xfer => dutyTok ER (kcell (if x.1 then peer x.2.1 x.2.2 c else c, some x)) 0 0)

/-- Every semaphore of the protocol is governed by the schedule, at round 0. -/
def recs (K : Dev nD × Slot → ℕ) : sProp 𝕄 :=
  bigSep Finset.univ fun co : Dev nD × Slot => iprop(cellInv ER (Rd (F := F) m ρ) (K co) (kcell co) ∗ reached ER (kcell co) 0)

instance recs_persistent (K : Dev nD × Slot → ℕ) : Persistent (recs (F := F) m ρ K) := by unfold recs; infer_instance

/-- What the launch makes of it all, before credit and levels. -/
def G' (c : Dev nD) : sProp 𝕄 := iprop(∃ K, recs (F := F) m ρ K ∗ lin c)

/-- The tokens of the devices' own cells, dealt to those that pay the duties. -/
theorem toks_dealt : (bigSep Finset.univ fun c : Dev nD => (toks c : sProp 𝕄))
    = bigSep Finset.univ fun c : Dev nD => iprop((bigSep Finset.univ fun j : Fin 3 => dutyTok ER (kcell (part j c, none)) 0 j)
        ∗ bigSep Finset.univ fun x : Xfer => dutyTok ER (kcell (if x.1 then peer x.2.1 x.2.2 c else c, some x)) 0 0) := by
  unfold toks
  rw [bigSep_sep', bigSep_sep', bigSep_cross cross (fun c j => (dutyTok ER (kcell (c, none)) 0 j : sProp 𝕄)),
    bigSep_cross (fun x : Xfer => if x.1 then cross (axis x.2.1 x.2.2) else Equiv.refl _) (fun c x => (dutyTok ER (kcell (c, some x)) 0 0 : sProp 𝕄))]
  congr 1

theorem regroup :
    (bigSep Finset.univ fun c : Dev nD => iprop((bigSep Finset.univ fun o : Slot => iprop(∃ κ : ℕ, cellInv ER (Rd (F := F) m ρ) κ (kcell (c, o)))) ∗ poss c ∗ toks c) : sProp 𝕄)
      ⊢ bigSep Finset.univ (G' (F := F) m ρ) := by
  rw [bigSep_sep', bigSep_sep', toks_dealt, ← bigSep_univ_prod (fun co : Dev nD × Slot => iprop(∃ κ : ℕ, cellInv ER (Rd (F := F) m ρ) κ (kcell co)))]
  have hp : (bigSep Finset.univ fun c : Dev nD => (poss c : sProp 𝕄))
      = iprop((bigSep Finset.univ fun c : Dev nD => bigSep Finset.univ fun o : Slot => atPos ER (kcell (c, o)) 0 ∅ 0)
          ∗ bigSep Finset.univ fun co : Dev nD × Slot => reached ER (kcell co) 0) := by
    unfold poss
    rw [bigSep_univ_prod, ← bigSep_sep']
    exact bigSep_congr fun c _ => bigSep_sep' _ _ _
  rw [hp]
  iintro ⟨HI, ⟨Hat, #HR⟩, Htok⟩
  ihave HK := (BI.bigSep_exists_pi Finset.univ (fun (co : Dev nD × Slot) (κ : ℕ) => (cellInv ER (Rd (F := F) m ρ) κ (kcell co) : sProp 𝕄))) $$ HI
  icases HK with ⟨%K, #HI⟩
  iapply (BI.bigSep_with_persistent (R := recs (F := F) m ρ K) (Φ := lin) fun c _ => by
    unfold G'; iintro H; iexists K; iexact H)
  isplitr
  · unfold recs
    iapply (Entails.of_eq (bigSep_sep' Finset.univ (fun co : Dev nD × Slot => (cellInv ER (Rd (F := F) m ρ) (K co) (kcell co) : sProp 𝕄)) (fun co => reached ER (kcell co) 0)).symm)
    isplitl; · iexact HI
    iexact HR
  · unfold lin
    iapply (Entails.of_eq (bigSep_sep' Finset.univ (fun c : Dev nD => (bigSep Finset.univ fun o : Slot => (atPos ER (kcell (c, o)) 0 ∅ 0 : sProp 𝕄))) _).symm)
    isplitl [Hat] <;> iassumption

/-- The launch's step over all devices at once. -/
theorem glob : (bigSep Finset.univ fun c => iprop(Pipeline.ownSems0 (Ix := Unit) (Name := ℕ) (U := UU) (Lvl := ℕ) (Val := Elt F) (τ := τ) osem c ∗ unscopedSems0 c ∗ G (F := F) m ρ c) : sProp 𝕄)
    ⊢ |={Set.univ}=> bigSep Finset.univ (G' (F := F) m ρ) :=
  ((bigSep_mono fun c _ => core_alloc m ρ c).trans (bigSep_fupd _ _)).trans (BI.fupd_mono (regroup m ρ))

/-! ## The credit -/

/-- What the devices owe one cell through one of their debts, each to the partner `p` of the debtor. -/
theorem sum_due (p : Dev nD → Dev nD) (hp : ∀ d, p (p d) = d) (o' o : Slot) (c : Dev nD) (n : ℕ) :
    ∑ d : Dev nD, (tallyAt (kcell (p d, o')) () n : CellTallies nD τ sig Unit) (kcell (c, o)) () = if o' = o then n else 0 := by
  have h : ∀ d : Dev nD, (tallyAt (kcell (p d, o')) () n : CellTallies nD τ sig Unit) (kcell (c, o)) () = if d = p c then (if o' = o then n else 0) else 0 := fun d => by
    rw [tallyAt_apply]
    by_cases h1 : d = p c
    · subst h1
      rw [hp, if_pos rfl]
      by_cases h2 : o' = o
      · subst h2; rw [if_pos ⟨rfl, rfl⟩, if_pos rfl]
      · rw [if_neg (fun h => h2 (congrArg Prod.snd (kcell_inj h.1)).symm), if_neg h2]
    · rw [if_neg h1, if_neg fun h => h1 ?_]
      have := congrArg Prod.fst (kcell_inj h.1)
      rw [show c = p d from this, hp]
  rw [Finset.sum_congr rfl fun d _ => h d, Finset.sum_ite_eq' Finset.univ (p c) fun _ => if o' = o then n else 0, if_pos (Finset.mem_univ _)]

/-- What all devices together owe a cell. -/
def owed : Slot → ℕ
  | none => 3 | some (false, _, _) => 0 | some (true, k, _) => N k

theorem sum_owed (c : Dev nD) : ∀ o : Slot, ∑ d : Dev nD, OB d 0 (kcell (c, o)) () = owed o := by
  intro o
  have h : ∑ d : Dev nD, OB d 0 (kcell (c, o)) ()
      = (∑ i ∈ Finset.Ico 0 24, if some (true, kOf i, sOf i) = o then N (kOf i) else 0) + ∑ i ∈ Finset.Ico 0 3, if none = o then 1 else 0 := by
    unfold OB O due
    simp only [Pi.add_apply, Finsupp.add_apply, Finset.sum_apply, Finsupp.finset_sum_apply]
    rw [Finset.sum_add_distrib, Finset.sum_comm, Finset.sum_comm (s := Finset.univ) (t := Finset.Ico 0 3)]
    exact congrArg₂ (· + ·) (Finset.sum_congr rfl fun i _ => sum_due _ (fun d => peer_peer _ _ d) _ _ _ _)
      (Finset.sum_congr rfl fun i _ => sum_due _ (fun d => part_part _ d) _ _ _ _)
  rw [h]
  rcases o with _ | ⟨_ | _, k, s⟩
  · rw [Finset.sum_eq_zero fun i _ => if_neg (fun h => by cases h), Finset.sum_congr rfl fun i _ => if_pos rfl]
    rfl
  · rw [Finset.sum_eq_zero fun i _ => if_neg (fun h => by cases h), Finset.sum_eq_zero fun i _ => if_neg (fun h => by cases h)]
    rfl
  · rw [Finset.sum_eq_zero (s := Finset.Ico 0 3) fun i _ => if_neg (fun h => by cases h), add_zero]
    rw [Finset.sum_eq_single (idx k s)]
    · rw [kOf_idx, sOf_idx, if_pos rfl]; rfl
    · intro i hi hne
      refine if_neg fun h => hne ?_
      have hk : kOf i = k := congrArg (fun x : Xfer => x.2.1) (Option.some.inj h)
      have hs : sOf i = s := congrArg (fun x : Xfer => x.2.2) (Option.some.inj h)
      have hi := Finset.mem_Ico.mp hi
      have hk' : i % 6 = k.val := congrArg Fin.val hk
      have hs' : i / 6 % 4 = s.val := congrArg Fin.val hs
      unfold idx
      omega
    · intro h
      exact absurd (Finset.mem_Ico.mpr ⟨Nat.zero_le _, by unfold idx; have := k.isLt; have := s.isLt; omega⟩) h

theorem launch_cell (c : Dev nD) (o : Slot) :
    tallyOn (kcell (c, o)) (launchCredit (Pipeline.owing fun c => OB c 0) 0 (kcell (c, o))) = (tallyAt (kcell (c, o)) () (owed o) : CellTallies nD τ sig Unit) := by
  unfold tallyAt
  refine congrArg _ (Finsupp.ext fun u => ?_)
  cases u
  rw [Pipeline.launchCredit_owing, Finsupp.single_eq_same, sum_owed]

/-- The credit of a device's cells. -/
theorem creds (c : Dev nD) :
    (Pipeline.launchCred (fun c => OB c 0) c : sProp 𝕄) ⊢ bigSep Finset.univ fun o : Slot => cred (tallyAt (kcell (c, o)) () (owed o)) := by
  unfold Pipeline.launchCred
  refine (bigSep_subset (Finset.subset_univ (Finset.univ.map ⟨csem, csem_inj⟩))).trans ?_
  rw [bigSep_map]
  exact bigSep_mono fun o _ => Entails.of_eq (congrArg cred (launch_cell c o))

/-- A device's share of the protocol: what it holds, and the credit of its cells. -/
theorem tokens_intro (c : Dev nD) :
    iprop(lin c ∗ bigSep Finset.univ fun o : Slot => cred (tallyAt (kcell (c, o)) () (owed o))) ⊢ (tokens c : sProp 𝕄) := by
  unfold lin tokens tix0
  simp only [bigSep_sep']
  rw [bigSep_slot, bigSep_slot, bigSep_xfer, bigSep_xfer, bigSep_xfer]
  iintro ⟨⟨⟨HaB, HaS, HaV⟩, HtB, HtS, HtV⟩, HcB, -, HcV⟩
  isplitl [HaB]; · iexact HaB
  isplitl [HcB]; · iexact HcB
  isplitl [HtB]; · iexact HtB
  isplitl [HaS]; · iexact HaS
  isplitl [HaV]; · iexact HaV
  isplitl [HcV]; · iexact HcV
  isplitl [HtS]; · iexact HtS
  iexact HtV

end Cert.CubeProof

end
-- ==== Proof.Launch.lean ====
/-
# `Launch`: the whole run

The call of every device runs `Body`'s text over the staged operand and result. The launch hands each device its
share of the protocol; the run ends with each device's result put together from its blocks, the operand as it was
and every counter at zero.
-/
module

public import proofs.«01_k».proof.Proof.Ghost
public import Idealize.ShloMosaic.Lib.Pipeline.CollectiveSegs

@[expose] public section

set_option backward.proofsInPublic true
set_option maxRecDepth 16384

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The state around the call -/

/-- The result that device `c` computes. -/
def outF (c : Dev nD) : S1024x512.Idx → Elt F .bf16 := joined (res m ρ) c

/-- What a device starts with: the records, at some names, and its share of the protocol. -/
def start (c : Dev nD) : sProp 𝕄 := iprop(∃ K, records m ρ K ∗ tokens c)

def Φ₀ (c : Dev nD) : sProp 𝕄 := iprop(start m ρ c ∗ Pipeline.scopedRest cfg0.spec c)
def Φ₁ (c : Dev nD) : sProp 𝕄 := iprop((bigSep Finset.univ fun o : Slot => semVal (kcell (c, o)) 0) ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m ρ c
    | ⟨1, _⟩ => outF m ρ c
  Φ t := match t with
    | ⟨0, _⟩ => Φ₀ m ρ c
    | ⟨_ + 1, _⟩ => Φ₁ c
  q _ := fullShare
  owed t := match t with
    | ⟨0, _⟩ => OB c 0
    | ⟨_ + 1, _⟩ => 0

/-- The scratch buffers and the result's buffer are the places and sources of every exchange. -/
theorem buffers_intro (c : Dev nD) (f : Buf (Elt F) ((c : Thread nD τ).loc cc0_stg1_0)) :
    iprop(Pipeline.scopedRest cfg0.spec c ∗ (((c : Thread nD τ).loc cc0_stg1_0) ↦{fullShare} f)) ⊢ (buffers c : sProp 𝕄) := by
  unfold buffers
  rw [scratch_eq, spread (fun k s => some' (F := F) c (dstM k s (peer k s c))), spread (fun k s => some' (F := F) c (srcM k s c))]
  unfold bufs accs
  iintro ⟨⟨⟨H0, H1, H2, H3, H4, H5⟩, HA⟩, Ho⟩
  ihave Ho := (out_deal c f) $$ Ho
  icases Ho with ⟨Hk, Hp⟩
  isplitl [H1 H3 H5 Hp]
  · isplitl [H1]; · iexact H1
    isplitl [H3]; · iexact H3
    isplitl [H5] <;> iassumption
  isplitl [H0 H2 H4 Hk]
  · isplitl [H0]; · iexact H0
    isplitl [H2]; · iexact H2
    isplitl [H4] <;> iassumption
  · iexact HA

/-- What exchange `s` of every chain sent, and what it received, with the contents forgotten. -/
theorem forget_send (c : Dev nD) (s : Fin 4) :
    (bigSep Finset.univ fun k : Fin 6 => sendPay m ρ c k s) ⊢ (bigSep Finset.univ fun k : Fin 6 => some' c (srcM k s c) : sProp 𝕄) :=
  bigSep_mono fun k _ => some_intro c (srcM k s c) _
theorem forget_recv (c : Dev nD) (s : Fin 4) :
    (bigSep Finset.univ fun k : Fin 6 => recvPay m ρ c k s) ⊢ (bigSep Finset.univ fun k : Fin 6 => some' c (dstM k s (peer k s c)) : sProp 𝕄) :=
  bigSep_mono fun k _ => some_intro c (dstM k s (peer k s c)) _

/-- At the end the counters are at zero, the scratch buffers whole, and the result in place. -/
theorem ending_elim (c : Dev nD) :
    (ending m ρ c : sProp 𝕄) ⊢ iprop(Φ₁ c ∗ (((c : Thread nD τ).loc cc0_stg1_0) ↦{fullShare} (outF m ρ c))) := by
  unfold ending don Φ₁ outF
  rw [scratch_eq, bigSep_slot, bigSep_xfer]
  simp only [bigSep_sep']
  rw [spread (fun k s => sendPay m ρ c k s), spread (fun k s => recvPay m ρ c k s)]
  unfold bufs accs
  iintro ⟨Hb, ⟨⟨Hs, Hr⟩, ⟨S0, S1, S2, S3⟩, ⟨R0, R1, R2, R3⟩⟩, HA⟩
  isplitr [S3 R3]
  · isplitl [Hb Hs Hr]
    · isplitl [Hb]; · iexact Hb
      isplitl [Hs] <;> iassumption
    · isplitr [HA]
      · isplitl [S0]; · (iapply (show _ ⊢ (bigSep Finset.univ fun k : Fin 6 => some' c (bufM k 0)) from forget_send m ρ c 0) $$ S0)
        isplitl [R0]; · (iapply (show _ ⊢ (bigSep Finset.univ fun k : Fin 6 => some' c (bufM k 1)) from forget_recv m ρ c 0) $$ R0)
        isplitl [S1]; · (iapply (show _ ⊢ (bigSep Finset.univ fun k : Fin 6 => some' c (bufM k 2)) from forget_send m ρ c 1) $$ S1)
        isplitl [R1]; · (iapply (show _ ⊢ (bigSep Finset.univ fun k : Fin 6 => some' c (bufM k 3)) from forget_recv m ρ c 1) $$ R1)
        isplitl [S2]; · (iapply (show _ ⊢ (bigSep Finset.univ fun k : Fin 6 => some' c (bufM k 4)) from forget_send m ρ c 2) $$ S2)
        iapply (show _ ⊢ (bigSep Finset.univ fun k : Fin 6 => some' c (bufM k 5)) from forget_recv m ρ c 2) $$ R2
      · iexact HA
  · iapply (out_join c (res m ρ))
    isplitl [S3]; · iexact S3
    iexact R3

/-! ## The body -/

section Body

abbrev t₀ : Fin cfg0.N := t0_0

/-- The staged operand is the operand. -/
theorem before_x (c : Dev nD) (d : S1024x512.Idx → Elt F .bf16) : (dats m ρ 0 c).before (0 : Fin 2) t₀ d = X m ρ c := by
  unfold Dat.before; rw [if_pos (show (cfg0.win (0 : Fin 2)).fetch t₀ = true from rfl)]; rfl

/-- A staged buffer at known contents, as the launch states it. -/
abbrev stg (c : Dev nD) (b : Ref sig .tc) (V : b.ty.Contents (Elt F)) : sProp 𝕄 :=
  iprop(∃ f : Buf (Elt F) (((c : Dev nD) : Thread nD τ).loc b), ⌜f = V⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (X m ρ c) ∗ stg c cc0_stg1_0 (outF m ρ c))

/-- The call's text takes what it is given to what it leaves. -/
theorem sound_body (c : Dev nD) : bodyPre m ρ c ⊢ WP c printed (fun _ => bodyPost m ρ c) := by
  rw [body_eq]
  unfold bodyPre Φ₀ start
  iintro ⟨⟨⟨%K, #HR, HT⟩, Hscr⟩, Ho, ⟨%d0, %g0, %hg0, Hx⟩, ⟨%d1, %g1, %hg1, Hout⟩⟩
  have hx : g0 = X m ρ c := hg0.trans (before_x m ρ c d0)
  subst hx
  unfold Dat.owesAt Pipeline.owesWithin
  icases Ho with ⟨%W, %hW, HO⟩
  rw [show (dats m ρ 0 c).owed t₀.castSucc = OB c 0 from rfl]
  iapply (text_run m ρ K c fun _ => bodyPost m ρ c) $$ [HT Hscr Hout HO Hx]
  · isplitr; · iexact HR
    isplitl [HT]; · iexact HT
    isplitl [Hscr Hout]
    · iapply (buffers_intro c g1)
      isplitl [Hscr] <;> iassumption
    isplitl [HO]; · (iexists W; iexact HO)
    iapply (Entails.of_eq (owns_whole (c : Thread nD τ) cc0_stg0_0 fullShare (X m ρ c)).symm)
    iexact Hx
  iintro ⟨Hend, ⟨%W', HO⟩, Hx⟩
  ihave Hend := (ending_elim m ρ c) $$ Hend
  ihave Hx := (Entails.of_eq (owns_whole (c : Thread nD τ) cc0_stg0_0 fullShare (X m ρ c))) $$ Hx
  icases Hend with ⟨HΦ, Hout⟩
  unfold bodyPost Dat.owesAt Pipeline.owesWithin
  rw [show (dats m ρ 0 c).owed t₀.succ = 0 from rfl]
  isplitl [HΦ]; · iexact HΦ
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c printed (fun _ => bodyPost m ρ c)
  exact sound_body m ρ c

end Body

/-! ## The launch -/

theorem share_eq (c : Dev nD) (w : Fin cfg0.W) : (dats m ρ 0 c).share w = fullShare := by unfold Dat.share; split <;> rfl

theorem records_intro (K : Dev nD × Slot → ℕ) : iprop(recs (F := F) m ρ K ∗ levAts L lv) ⊢ (records m ρ K : sProp 𝕄) := Entails.of_eq rfl

theorem start_intro (c : Dev nD) :
    iprop(Pipeline.unscopedRestP Pipeline.Prefetch.none cfg0.spec c (fun b => m ((c : Thread nD τ).loc b)) ∗ levAts L lv
        ∗ Pipeline.launchCred (fun c => OB c 0) c ∗ prngReg c (ρ c) ∗ G' m ρ c)
      ⊢ |={Set.univ}=> iprop(start m ρ c ∗ emp) := by
  unfold start G'
  iintro ⟨-, #Hlev, Hcr, -, ⟨%K, #HR, Hl⟩⟩
  ihave Hc := (creds (F := F) c) $$ Hcr
  imodintro
  isplitl
  · iexists K
    isplitr
    · iapply (records_intro m ρ K)
      isplitr
      · iexact HR
      · iexact Hlev
    · iapply (tokens_intro (F := F) c)
      isplitl [Hl] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  rw [sems_eq]
  iintro ⟨⟨Hu, Ho⟩, Hr⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (by fin_cases w <;> fin_cases s <;> decide)
    · show (levAts L lv : sProp 𝕄) ⊢ MayWait (c : Thread nD τ) _ () 0
      rw [← O_end c]
      exact mayWait_O c _ 24 fun i h1 h2 => absurd h2 (Nat.not_lt.mpr h1)

/-! ## The run -/

/-- What an array of the call holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters, at any float values, every fair run of the eight devices ends, with each
    device's arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => OB c 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand is as it was. -/
theorem final_x (c : Dev nD) : finalA m ρ c (0 : Fin 2) = m ((c : Thread nD τ).loc main_arg0) :=
  (dats (F := F) m ρ 0 c).arrAt_in (0 : Fin 2) rfl _

end Cert.CubeProof

end
-- ==== Proof.Value.lean ====
/-
# `Value`: the values over the reals

Read over the extended reals, where no conversion rounds, the three exchanges of a chain sum the operands of all
eight devices, each once, whatever order the chain takes the axes in. So every block a device receives is a
block of the one result, and every device ends holding that result.
-/
module

public import proofs.«01_k».proof.Proof.Launch
public import Idealize.ShloMosaic.Lib.Pipeline.ValueKit
public import Idealize.ShloMosaic.Lib.Pointwise
public import Idealize.ShloMosaic.Lib.IdealHost

@[expose] public section

set_option backward.proofsInPublic true
set_option maxRecDepth 16384

noncomputable section

namespace Cert.CubeProof

open Cert.KernelIdeal Cert.KernelIdeal.Gen
open Idealize.ShloMosaic
open Idealize.ShloMosaic.TcCoe
open Idealize.ShloMosaic.ValueIdx
open Idealize.ShloMosaic.Pipeline

section AnyFloat

variable {F : FTy → Type} [FloatOps F]
variable (m : (ℓ : Loc nD τ sig) → Buf (Elt F) ℓ) (ρ : Dev nD → PrngReg)

/-- Both windows take the whole array. -/
theorem whole_windows : ∀ t : Fin cfg0.N, win0_0.index t = ![0, 0] ∧ win0_1.index t = ![0, 0] :=
  (by decide +kernel : ∀ t : Fin grid0.N, _)

/-- What a device works on is its argument. -/
theorem X_eq (c : Dev nD) : X m ρ c = m ((c : Thread nD τ).loc main_arg0) := by
  unfold X s₀
  blk_ext! [whole_windows (0 : Fin 1)]

/-- The result array ends holding the blocks put together. -/
theorem final_out (c : Dev nD) : finalA m ρ c (1 : Fin 2) = outF m ρ c := by
  unfold finalA
  refine (dats m ρ 0 c).arrAt_eq_of_after_last 1 t₀ (by decide +kernel) _ fun j => ?_
  blk_simp
  exact congrArg (outF m ρ c) (by blk_ext! [whole_windows t₀])

end AnyFloat

/-! ## Over the reals -/

/-- A sum over the devices, in the order in which a chain's exchanges add it up. -/
theorem sum_devices {M : Type} [AddCommMonoid M] (f : Dev nD → M) (k : Fin 6) (c : Dev nD) :
    ((f c + f (peer k 0 c)) + (f (peer k 1 c) + f (peer k 0 (peer k 1 c))))
        + ((f (peer k 2 c) + f (peer k 0 (peer k 2 c))) + (f (peer k 1 (peer k 2 c)) + f (peer k 0 (peer k 1 (peer k 2 c)))))
      = ∑ d, f d := by
  have h : ∀ (k : Fin 6) (c : Dev nD), (Finset.univ : Finset (Dev nD)).val
      = ([c, peer k 0 c, peer k 1 c, peer k 0 (peer k 1 c), peer k 2 c, peer k 0 (peer k 2 c), peer k 1 (peer k 2 c),
          peer k 0 (peer k 1 (peer k 2 c))] : List (Dev nD)) := by decide +kernel
  unfold Finset.sum
  rw [h k c]
  simp only [Multiset.map_coe, Multiset.sum_coe, List.map_cons, List.map_nil, List.sum_cons, List.sum_nil, add_zero, add_assoc]

variable (m : (ℓ : Loc nD τ sig) → Buf (Elt Ideal) ℓ) (ρ : Dev nD → PrngReg)

/-- The sum of the eight operands, entry by entry. -/
def total (i : S1024x512.Idx) : EReal := ∑ d : Dev nD, (m ((d : Thread nD τ).loc main_arg0) i : EReal)

/-- The function the kernel applies to the sum. -/
def fn (S : EReal) : EReal := Ideal.tanh S * S * S + max S 0 * max S 0 * max S 0

/-- The third sum of every chain, on every device, is the sum of the eight operands. -/
theorem sum3_eq (k : Fin 6) (c : Dev nD) (i : S1024x512.Idx) : (sum3 m ρ k c i : EReal) = total m i := by
  refine (sum_devices (fun d => (X m ρ d i : EReal)) k c).trans (Finset.sum_congr rfl fun d _ => ?_)
  rw [X_eq]

/-- What each chain leaves is the function of that sum. -/
theorem res_eq (k : Fin 6) (c : Dev nD) (i : S1024x512.Idx) : (res m ρ k c i : EReal) = fn (total m i) := by
  rw [← sum3_eq m ρ k c i]
  show Ideal.tanh _ * _ * _ + max _ (Ideal.ofBits .f32 0x00000000#32) * max _ (Ideal.ofBits .f32 0x00000000#32) * max _ (Ideal.ofBits .f32 0x00000000#32) = _
  rw [Ideal.ofBits_zero_f32]
  rfl

/-- The result of every device, at every entry. -/
theorem out_eq (c : Dev nD) (i : S1024x512.Idx) : (outF m ρ c i : EReal) = fn (total m i) := res_eq m ρ _ _ i

end Cert.CubeProof

end
-- ==== Proof.RefValue.lean ====
/-
# `RefValue`: the reference over the reals

The reference reads its one array as eight blocks, adds them entry by entry, and applies the same function.
-/
module

public import proofs.«01_k».proof.Proof.Value
public import proofs.«01_k».proof.Proof.Gen.ReferenceIdeal
public import proofs.«01_k».proof.Proof.Gen.ReferenceIdeal.Run
public import Idealize.ShloMosaic.Lib.Layout

@[expose] public section

set_option backward.proofsInPublic true
set_option maxRecDepth 16384

noncomputable section

namespace Cert.CubeProof

open Cert.ReferenceIdeal Cert.ReferenceIdeal.Gen
open Idealize.ShloMosaic
open Idealize.ShloMosaic.TcCoe

/-- The reference's sum over the eight blocks of its array. -/
def refSum (x : FVec Ideal S8192x512 .bf16) : FVec Ideal S1024x512 .f32 :=
  Host.reduceAdd (shapeCast _ (extf .f32 x bitsLt_bf16_f32) shapeCasts_S8192x512_S8x1024x512) (constant S_ .f32 0x00000000#32)
    reducesTo_S8x1024x512_S1024x512_d0 h_S_

/-- The reference's result as a function of its array. -/
def refOut (x : FVec Ideal S8192x512 .bf16) : FVec Ideal S1024x512 .bf16 :=
  truncf .bf16 (addf (mulf (mulf (Host.tanh (refSum x)) (refSum x)) (refSum x))
    (mulf (mulf (maximumf (refSum x) (broadcastInDim S1024x512 ![] bcast_S_S1024x512 (constant S_ .f32 0x00000000#32)))
        (maximumf (refSum x) (broadcastInDim S1024x512 ![] bcast_S_S1024x512 (constant S_ .f32 0x00000000#32))))
      (maximumf (refSum x) (broadcastInDim S1024x512 ![] bcast_S_S1024x512 (constant S_ .f32 0x00000000#32))))) bitsLt_bf16_f32

/-- Entry `i` of block `d` is where the reshaped array has `(d, i)`. -/
theorem reshape_idx (h : Layout.Tiles S1024x512 S8192x512 0 8) (d : Fin 8) (i : S1024x512.Idx) :
    Shape.reshapeEquiv shapeCasts_S8192x512_S8x1024x512 (ix3 d (i 0) (i 1)) = h.idx d i := by
  refine Shape.reshapeEquiv_eq_of_rowMajor _ ?_
  rw [Shape.rowMajor_val_two, Shape.rowMajor_val_three]
  rfl

/-- The reference's sum at an entry is the sum of that entry over the blocks. -/
theorem refSum_apply (x : FVec Ideal S8192x512 .bf16) (h : Layout.Tiles S1024x512 S8192x512 0 8) (i : S1024x512.Idx) :
    (refSum x i : EReal) = ∑ d : Fin 8, (Layout.block S1024x512 S8192x512 0 8 d x h i : EReal) := by
  unfold refSum
  rw [Host.reduceAdd_apply, Ideal.hostReduceAdd_def, Ideal.hostReduceAdd_r3_a0]
  refine (congrArg₂ (· + ·) Ideal.ofBits_zero_f32 (Finset.sum_congr rfl fun d _ => ?_)).trans (zero_add _)
  exact congrArg x (reshape_idx h d i)

/-- The reference's result at an entry is the same function of that sum. -/
theorem refOut_apply (x : FVec Ideal S8192x512 .bf16) (i : S1024x512.Idx) : (refOut x i : EReal) = fn (refSum x i) := by
  show Ideal.tanh _ * _ * _ + max _ (Ideal.ofBits .f32 0x00000000#32) * max _ (Ideal.ofBits .f32 0x00000000#32) * max _ (Ideal.ofBits .f32 0x00000000#32) = _
  rw [Ideal.ofBits_zero_f32]
  rfl

end Cert.CubeProof

end
-- ==== Proof.Same.lean ====
/-
# `Same`: the two texts of the kernel

The program read over floats as bit patterns and the program read over the reals are one text, printed twice. Here
their body tables are shown equal, so one run serves both.
-/
module

public import proofs.«01_k».proof.Proof.Gen.Kernel
public import proofs.«01_k».proof.Proof.Gen.KernelIdeal

@[expose] public section

set_option backward.proofsInPublic true
set_option maxRecDepth 16384

noncomputable section

namespace Cert.CubeProof

open Idealize.ShloMosaic

variable {F : FTy → Type} [FloatOps F]

/-- The kernel's body is the same in both texts. -/
theorem defs₀_same : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- So is the whole table of bodies. -/
theorem defs_same : Cert.Kernel.defs (F := F) = Cert.KernelIdeal.defs (F := F) := by
  unfold Cert.Kernel.defs Cert.KernelIdeal.defs
  exact congrArg (Pipeline.defs Cert.KernelIdeal.pcfgs) defs₀_same

/-- And the main program. -/
theorem main_same : Cert.Kernel.main (F := F) = Cert.KernelIdeal.main (F := F) := rfl

end Cert.CubeProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.RefValue
public import proofs.«01_k».proof.Proof.Same
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel, over floats as bit patterns, runs to its end, leaves its argument as it was and every counter at zero. -/
theorem frame_kernel : Cert.quiescent_Kernel := fun m ρ _ => by
  have h : θ_run Cert.KernelIdeal.defs (onTc Cert.KernelIdeal.main) (CubeProof.s₀ (F := Bits) m ρ) fun r =>
      (∀ c : Dev Cert.KernelIdeal.nD, r.2.mem ((c : Thread Cert.KernelIdeal.nD Cert.KernelIdeal.τ).loc Cert.KernelIdeal.main_arg0)
        = m ((c : Thread Cert.KernelIdeal.nD Cert.KernelIdeal.τ).loc Cert.KernelIdeal.main_arg0)) ∧ r.2.sem = fun _ => 0 :=
    (θ_run Cert.KernelIdeal.defs _ _).mono
      (fun _ h => ⟨fun c => (h.1 c (0 : Fin 2)).trans (CubeProof.final_x m ρ c), h.2⟩) (CubeProof.run_main (F := Bits) m ρ)
  rw [CubeProof.defs_same, CubeProof.main_same]
  exact h

/-- The same over the reals. -/
theorem frame_kernelIdeal : Cert.quiescent_KernelIdeal := fun m ρ _ =>
  (θ_run Cert.KernelIdeal.defs _ _).mono
    (fun _ h => ⟨fun c => (h.1 c (0 : Fin 2)).trans (CubeProof.final_x m ρ c), h.2⟩) (CubeProof.run_main (F := Ideal) m ρ)

/-- The reference runs to its end and leaves its argument as it was; it has no counter. -/
theorem frame_referenceIdeal : Cert.quiescent_ReferenceIdeal := fun m ρ _ =>
  (θ_run Cert.ReferenceIdeal.defs _ _).mono
    (fun r h => ⟨fun c => (h c).2, sem_eq_zero_of_no_sems (by decide) _⟩) (Cert.ReferenceIdeal.Value.run m ρ)

/-- Over the reals, every device of the kernel ends holding the reference's result. -/
theorem algebraic : Cert.algebraic_KernelIdeal_ReferenceIdeal := fun m ρ m' ρ' _ hm => by
  refine ⟨CubeProof.refOut (m' (((0 : Dev Cert.ReferenceIdeal.nD).tc : Thread Cert.ReferenceIdeal.nD Cert.ReferenceIdeal.τ).loc
    Cert.ReferenceIdeal.main_arg0)), ?_, ?_⟩
  · refine (θ_run Cert.KernelIdeal.defs _ _).mono (fun _ h c => ⟨?_, (h.1 c (0 : Fin 2)).trans (CubeProof.final_x m ρ c)⟩)
      (CubeProof.run_main (F := Ideal) m ρ)
    refine (h.1 c (1 : Fin 2)).trans ((CubeProof.final_out m ρ c).trans (funext fun i => ?_))
    refine (CubeProof.out_eq m ρ c i).trans (((CubeProof.refOut_apply _ i).trans (congrArg CubeProof.fn ?_)).symm)
    refine (CubeProof.refSum_apply _ (by decide) i).trans (Finset.sum_congr rfl fun d _ => ?_)
    exact (congrFun (hm d) i).symm
  · exact (θ_run Cert.ReferenceIdeal.defs _ _).mono (fun _ h => h 0) (Cert.ReferenceIdeal.Value.run m' ρ')

/-- Every claim of the statement. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
